-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x128x2048 : Shape := ⟨3, ![2, 128, 2048]⟩
abbrev S128x8 : Shape := ⟨2, ![128, 8]⟩
abbrev S8 : Shape := ⟨1, ![8]⟩
abbrev S8x64x128 : Shape := ⟨3, ![8, 64, 128]⟩
abbrev S8x64x128x8 : Shape := ⟨4, ![8, 64, 128, 8]⟩
abbrev S64x8 : Shape := ⟨2, ![64, 8]⟩
abbrev S8x128x64 : Shape := ⟨3, ![8, 128, 64]⟩
abbrev S8x128x64x8 : Shape := ⟨4, ![8, 128, 64, 8]⟩
abbrev S2x2048x128 : Shape := ⟨3, ![2, 2048, 128]⟩
abbrev S2x2048x8 : Shape := ⟨3, ![2, 2048, 8]⟩
abbrev S1x1x8 : Shape := ⟨3, ![1, 1, 8]⟩
abbrev S2x2048x2 : Shape := ⟨3, ![2, 2048, 2]⟩
abbrev S_ : Shape := ⟨0, ![]⟩
abbrev S2x2048 : Shape := ⟨2, ![2, 2048]⟩
abbrev S2x2048x1 : Shape := ⟨3, ![2, 2048, 1]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S7 : Shape := ⟨1, ![7]⟩
abbrev S1 : Shape := ⟨1, ![1]⟩
abbrev S2x2048x128x1 : Shape := ⟨4, ![2, 2048, 128, 1]⟩
abbrev S2x2048x128x8 : Shape := ⟨4, ![2, 2048, 128, 8]⟩
abbrev S2x2048x8x64 : Shape := ⟨4, ![2, 2048, 8, 64]⟩
abbrev S2x2048x8x1 : Shape := ⟨4, ![2, 2048, 8, 1]⟩
abbrev S2x2048x64 : Shape := ⟨3, ![2, 2048, 64]⟩
abbrev S2x64 : Shape := ⟨2, ![2, 64]⟩

class Facts : Prop where
  transposes_S2x128x2048_S2x2048x128_0_2_1 : S2x128x2048.Transposes [0, 2, 1] S2x2048x128
  bcast_S8_S1x1x8_2 : S8.BroadcastsInDim S1x1x8 (![2] : Fin 1 → Fin S1x1x8.rank)
  bcast_S1x1x8_S2x2048x8_0_1_2 : S1x1x8.BroadcastsInDim S2x2048x8 (![0, 1, 2] : Fin 3 → Fin S2x2048x8.rank)
  sliceFits_S2x2048x8_S2x2048x2 : S2x2048x8.Slices (fun _ => 0) S2x2048x2
  reducesTo_S2x2048x2_S2x2048_d2 : S2x2048x2.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x2_0_1_2 : S2x2048x1.BroadcastsInDim S2x2048x2 (![0, 1, 2] : Fin 3 → Fin S2x2048x2.rank)
  bcast_S2x2048x2_S2x2048x2x1_0_1_2 : S2x2048x2.BroadcastsInDim S2x2048x2x1 (![0, 1, 2] : Fin 3 → Fin S2x2048x2x1.rank)
  bcast_S2x2048x2x1_S2x2048x2x8_0_1_2_3 : S2x2048x2x1.BroadcastsInDim S2x2048x2x8 (![0, 1, 2, 3] : Fin 4 → Fin S2x2048x2x8.rank)
  bcast_S1x1x1x8_S2x2048x2x8_0_1_2_3 : S1x1x1x8.BroadcastsInDim S2x2048x2x8 (![0, 1, 2, 3] : Fin 4 → Fin S2x2048x2x8.rank)
  reducesTo_S2x2048x2x8_S2x2048x8_d2 : S2x2048x2x8.ReducesTo [2] S2x2048x8
  bcast_S_S2x2048x128 : S_.BroadcastsInDim S2x2048x128 (![] : Fin 0 → Fin S2x2048x128.rank)
  bcast_S_S7 : S_.BroadcastsInDim S7 (![] : Fin 0 → Fin S7.rank)
  shapeCasts_S_S1 : S_.ShapeCasts S1
  bcast_S1_S7_0 : S1.BroadcastsInDim S7 (![0] : Fin 1 → Fin S7.rank)
  bcast_S_S1 : S_.BroadcastsInDim S1 (![] : Fin 0 → Fin S1.rank)
  concatenates_S7_S1_S8_d0 : Shape.Concatenates [S7, S1] S8 0
  bcast_S2x2048x128_S2x2048x128x1_0_1_2 : S2x2048x128.BroadcastsInDim S2x2048x128x1 (![0, 1, 2] : Fin 3 → Fin S2x2048x128x1.rank)
  bcast_S8_S1x1x1x8_3 : S8.BroadcastsInDim S1x1x1x8 (![3] : Fin 1 → Fin S1x1x1x8.rank)
  bcast_S2x2048x128x1_S2x2048x128x8_0_1_2_3 : S2x2048x128x1.BroadcastsInDim S2x2048x128x8 (![0, 1, 2, 3] : Fin 4 → Fin S2x2048x128x8.rank)
  bcast_S1x1x1x8_S2x2048x128x8_0_1_2_3 : S1x1x1x8.BroadcastsInDim S2x2048x128x8 (![0, 1, 2, 3] : Fin 4 → Fin S2x2048x128x8.rank)
  bcast_S_S2x2048x128x8 : S_.BroadcastsInDim S2x2048x128x8 (![] : Fin 0 → Fin S2x2048x128x8.rank)
  bcast_S2x2048x8_S2x2048x8x1_0_1_2 : S2x2048x8.BroadcastsInDim S2x2048x8x1 (![0, 1, 2] : Fin 3 → Fin S2x2048x8x1.rank)
  bcast_S2x2048x8x1_S2x2048x8x64_0_1_2_3 : S2x2048x8x1.BroadcastsInDim S2x2048x8x64 (![0, 1, 2, 3] : Fin 4 → Fin S2x2048x8x64.rank)
  reducesTo_S2x2048x8x64_S2x2048x64_d2 : S2x2048x8x64.ReducesTo [2] S2x2048x64
  reducesTo_S2x2048x64_S2x64_d1 : S2x2048x64.ReducesTo [1] S2x64
  bcast_S_S2x64 : S_.BroadcastsInDim S2x64 (![] : Fin 0 → Fin S2x64.rank)
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S64x8 : S_.BroadcastsInDim S64x8 (![] : Fin 0 → Fin S64x8.rank)
  reducesTo_S64x8_S_d0_1 : S64x8.ReducesTo [0, 1] S_
  bcast_S_S2x128x2048 : S_.BroadcastsInDim S2x128x2048 (![] : Fin 0 → Fin S2x128x2048.rank)
  reducesTo_S2x128x2048_S_d0_1_2 : S2x128x2048.ReducesTo [0, 1, 2] S_
  reducesTo_S2x64_S_d0_1 : S2x64.ReducesTo [0, 1] S_
  dot_S2x2048x128_S128x8_S2x2048x8_2_0_01_1_n_n_wf : DotDims.WF S2x2048x128 S128x8 S2x2048x8 [2] [0] [0, 1] [1] [] []
  dot_S2x2048x128_S8x64x128_S2x2048x8x64_2_2_01_01_n_n_wf : DotDims.WF S2x2048x128 S8x64x128 S2x2048x8x64 [2] [2] [0, 1] [0, 1] [] []
  dot_S2x2048x128x8_S8x64x128x8_S2x2048x8x64_32_32_01_01_n_n_wf : DotDims.WF S2x2048x128x8 S8x64x128x8 S2x2048x8x64 [3, 2] [3, 2] [0, 1] [0, 1] [] []

variable [Facts]

def dot_S2x2048x128_S128x8_S2x2048x8_2_0_01_1_n_n : DotDims S2x2048x128 S128x8 S2x2048x8 where
  lhsContracting := [2]
  rhsContracting := [0]
  lhsNonContracting := [0, 1]
  rhsNonContracting := [1]
  lhsBatch := []
  rhsBatch := []
  wf := dot_S2x2048x128_S128x8_S2x2048x8_2_0_01_1_n_n_wf
def dot_S2x2048x128_S8x64x128_S2x2048x8x64_2_2_01_01_n_n : DotDims S2x2048x128 S8x64x128 S2x2048x8x64 where
  lhsContracting := [2]
  rhsContracting := [2]
  lhsNonContracting := [0, 1]
  rhsNonContracting := [0, 1]
  lhsBatch := []
  rhsBatch := []
  wf := dot_S2x2048x128_S8x64x128_S2x2048x8x64_2_2_01_01_n_n_wf
def dot_S2x2048x128x8_S8x64x128x8_S2x2048x8x64_32_32_01_01_n_n : DotDims S2x2048x128x8 S8x64x128x8 S2x2048x8x64 where
  lhsContracting := [3, 2]
  rhsContracting := [3, 2]
  lhsNonContracting := [0, 1]
  rhsNonContracting := [0, 1]
  lhsBatch := []
  rhsBatch := []
  wf := dot_S2x2048x128x8_S8x64x128x8_S2x2048x8x64_32_32_01_01_n_n_wf
def fn_one_hot {F : FTy → Type} [FloatOps F] (arg0 : IVec S2x2048x2 32) : FVec F S2x2048x2x8 .f32 :=
  let v0 : IVec S2x2048x2x1 32 := broadcastInDim S2x2048x2x1 ![0, 1, 2] bcast_S2x2048x2_S2x2048x2x1_0_1_2 arg0
  let v1 : IVec S1x1x1x8 32 := iotaInDim S1x1x1x8 32 3
  let v2 : IVec S2x2048x2x8 32 := broadcastInDim S2x2048x2x8 ![0, 1, 2, 3] bcast_S2x2048x2x1_S2x2048x2x8_0_1_2_3 v0
  let v3 : IVec S2x2048x2x8 32 := broadcastInDim S2x2048x2x8 ![0, 1, 2, 3] bcast_S1x1x1x8_S2x2048x2x8_0_1_2_3 v1
  let v4 : IVec S2x2048x2x8 1 := cmpi .eq v2 v3
  let v5 : FVec F S2x2048x2x8 .f32 := uitofp .f32 v4
  v5

def fn_silu {F : FTy → Type} [FloatOps F] (arg0 : FVec F S2x2048x128 .f32) : FVec F S2x2048x128 .f32 :=
  let v0 : FVec F S2x2048x128 .f32 := Host.negf arg0
  let v1 : FVec F S2x2048x128 .f32 := Host.exp v0
  let cst : FVec F S_ .f32 := constant S_ .f32 0x3F800000#32
  let v2 : FVec F S2x2048x128 .f32 := broadcastInDim S2x2048x128 ![] bcast_S_S2x2048x128 cst
  let v3 : FVec F S2x2048x128 .f32 := addf v2 v1
  let cst_0 : FVec F S_ .f32 := constant S_ .f32 0x3F800000#32
  let v4 : FVec F S2x2048x128 .f32 := broadcastInDim S2x2048x128 ![] bcast_S_S2x2048x128 cst_0
  let v5 : FVec F S2x2048x128 .f32 := Host.divf v4 v3
  let v6 : FVec F S2x2048x128 .f32 := mulf arg0 v5
  v6

def fn_linspace {F : FTy → Type} [FloatOps F] (arg0 : FVec F S_ .f32) (arg1 : FVec F S_ .f32) : FVec F S8 .f32 :=
  let v0 : FVec F S_ .f32 := id arg0
  let v1 : FVec F S_ .f32 := id arg1
  let v2 : FVec F S_ .f32 := subf v1 v0
  let cst : FVec F S_ .f32 := constant S_ .f32 0x40E00000#32
  let v3 : FVec F S_ .f32 := Host.divf v2 cst
  let v4 : FVec F S7 .f32 := sitofp .f32 (iotaInDim S7 32 0)
  let cst_0 : FVec F S_ .f32 := constant S_ .f32 0x40E00000#32
  let v5 : FVec F S7 .f32 := broadcastInDim S7 ![] bcast_S_S7 cst_0
  let v6 : FVec F S7 .f32 := Host.divf v4 v5
  let v7 : FVec F S1 .f32 := shapeCast S1 v0 shapeCasts_S_S1
  let cst_1 : FVec F S_ .f32 := constant S_ .f32 0x3F800000#32
  let v8 : FVec F S7 .f32 := broadcastInDim S7 ![] bcast_S_S7 cst_1
  let v9 : FVec F S7 .f32 := subf v8 v6
  let v10 : FVec F S7 .f32 := broadcastInDim S7 ![0] bcast_S1_S7_0 v7
  let v11 : FVec F S7 .f32 := mulf v10 v9
  let v12 : FVec F S1 .f32 := shapeCast S1 v1 shapeCasts_S_S1
  let v13 : FVec F S7 .f32 := broadcastInDim S7 ![0] bcast_S1_S7_0 v12
  let v14 : FVec F S7 .f32 := mulf v13 v6
  let v15 : FVec F S7 .f32 := addf v11 v14
  let v16 : FVec F S1 .f32 := broadcastInDim S1 ![] bcast_S_S1 v1
  let v17 : FVec F S8 .f32 := (fun a b => concatenate S8 0 [⟨S7, a⟩, ⟨S1, b⟩] concatenates_S7_S1_S8_d0) v15 v16
  v17

def fn_part4 {F : FTy → Type} [FloatOps F] (main_v49 : IVec S_ 1) (main_v53 : IVec S_ 1) (main_v57 : IVec S_ 1) (main_v61 : IVec S_ 1) (main_v65 : IVec S_ 1) (main_v69 : IVec S_ 1) : IVec S_ 1 :=
  let main_v70 : IVec S_ 1 := andi main_v49 main_v53
  let main_v71 : IVec S_ 1 := andi main_v70 main_v57
  let main_v72 : IVec S_ 1 := andi main_v71 main_v61
  let main_v73 : IVec S_ 1 := andi main_v72 main_v65
  let main_v74 : IVec S_ 1 := andi main_v73 main_v69
  main_v74

def fn_part3 {F : FTy → Type} [FloatOps F] (main_arg0 : FVec F S2x128x2048 .f32) (main_arg5 : FVec F S64x8 .f32) (main_arg6 : FVec F S8 .f32) (main_v45 : FVec F S2x64 .f32) (main_v49 : IVec S_ 1) (main_v53 : IVec S_ 1) : IVec S_ 1 :=
  let main_v54 : FVec F S64x8 .f32 := Host.absf main_arg5
  let main_cst_14 : FVec F S_ .f32 := constant S_ .f32 0x7F800000#32
  let main_v55 : FVec F S64x8 .f32 := broadcastInDim S64x8 ![] bcast_S_S64x8 main_cst_14
  let main_v56 : IVec S64x8 1 := cmpf .olt main_v54 main_v55
  let main_c_15 : IVec S_ 1 := constantI S_ 1 1#1
  let main_v57 : IVec S_ 1 := (fun x v => Host.reduce IntOp.andi x v reducesTo_S64x8_S_d0_1 h_S_) main_v56 main_c_15
  let main_v58 : FVec F S8 .f32 := Host.absf main_arg6
  let main_cst_16 : FVec F S_ .f32 := constant S_ .f32 0x7F800000#32
  let main_v59 : FVec F S8 .f32 := broadcastInDim S8 ![] bcast_S_S8 main_cst_16
  let main_v60 : IVec S8 1 := cmpf .olt main_v58 main_v59
  let main_c_17 : IVec S_ 1 := constantI S_ 1 1#1
  let main_v61 : IVec S_ 1 := (fun x v => Host.reduce IntOp.andi x v reducesTo_S8_S_d0 h_S_) main_v60 main_c_17
  let main_v62 : FVec F S2x128x2048 .f32 := Host.absf main_arg0
  let main_cst_18 : FVec F S_ .f32 := constant S_ .f32 0x40C66666#32
  let main_v63 : FVec F S2x128x2048 .f32 := broadcastInDim S2x128x2048 ![] bcast_S_S2x128x2048 main_cst_18
  let main_v64 : IVec S2x128x2048 1 := cmpf .ole main_v62 main_v63
  let main_c_19 : IVec S_ 1 := constantI S_ 1 1#1
  let main_v65 : IVec S_ 1 := (fun x v => Host.reduce IntOp.andi x v reducesTo_S2x128x2048_S_d0_1_2 h_S_) main_v64 main_c_19
  let main_v66 : FVec F S2x64 .f32 := Host.absf main_v45
  let main_cst_20 : FVec F S_ .f32 := constant S_ .f32 0x40C66666#32
  let main_v67 : FVec F S2x64 .f32 := broadcastInDim S2x64 ![] bcast_S_S2x64 main_cst_20
  let main_v68 : IVec S2x64 1 := cmpf .ole main_v66 main_v67
  let main_c_21 : IVec S_ 1 := constantI S_ 1 1#1
  let main_v69 : IVec S_ 1 := (fun x v => Host.reduce IntOp.andi x v reducesTo_S2x64_S_d0_1 h_S_) main_v68 main_c_21
  fn_part4 (F := F) main_v49 main_v53 main_v57 main_v61 main_v65 main_v69

def fn_part2 {F : FTy → Type} [FloatOps F] (main_arg0 : FVec F S2x128x2048 .f32) (main_arg1 : FVec F S128x8 .f32) (main_arg2 : FVec F S8 .f32) (main_arg4 : FVec F S8x64x128x8 .f32) (main_arg5 : FVec F S64x8 .f32) (main_arg6 : FVec F S8 .f32) (main_v20 : FVec F S2x2048x8 .f32) (main_v35 : FVec F S2x2048x128x8 .f32) (main_v36 : FVec F S2x2048x8x64 .f32) : IVec S_ 1 :=
  let main_v37 : FVec F S2x2048x8x64 .f32 := (fun l r => Host.dotGeneral dot_S2x2048x128x8_S8x64x128x8_S2x2048x8x64_32_32_01_01_n_n none l r) main_v35 main_arg4
  let main_v38 : FVec F S2x2048x8x64 .f32 := addf main_v36 main_v37
  let main_v39 : FVec F S2x2048x8x1 .f32 := broadcastInDim S2x2048x8x1 ![0, 1, 2] bcast_S2x2048x8_S2x2048x8x1_0_1_2 main_v20
  let main_v40 : FVec F S2x2048x8x64 .f32 := broadcastInDim S2x2048x8x64 ![0, 1, 2, 3] bcast_S2x2048x8x1_S2x2048x8x64_0_1_2_3 main_v39
  let main_v41 : FVec F S2x2048x8x64 .f32 := mulf main_v40 main_v38
  let main_cst_8 : FVec F S_ .f32 := constant S_ .f32 0x00000000#32
  let main_v42 : FVec F S2x2048x64 .f32 := (fun x v => Host.reduceAdd x v reducesTo_S2x2048x8x64_S2x2048x64_d2 h_S_) main_v41 main_cst_8
  let main_cst_9 : FVec F S_ .f32 := constant S_ .f32 0x00000000#32
  let main_v43 : FVec F S2x64 .f32 := (fun x v => Host.reduceAdd x v reducesTo_S2x2048x64_S2x64_d1 h_S_) main_v42 main_cst_9
  let main_cst_10 : FVec F S_ .f32 := constant S_ .f32 0x45000000#32
  let main_v44 : FVec F S2x64 .f32 := broadcastInDim S2x64 ![] bcast_S_S2x64 main_cst_10
  let main_v45 : FVec F S2x64 .f32 := Host.divf main_v43 main_v44
  let main_v46 : FVec F S128x8 .f32 := Host.absf main_arg1
  let main_cst_11 : FVec F S_ .f32 := constant S_ .f32 0x7F800000#32
  let main_v47 : FVec F S128x8 .f32 := broadcastInDim S128x8 ![] bcast_S_S128x8 main_cst_11
  let main_v48 : IVec S128x8 1 := cmpf .olt main_v46 main_v47
  let main_c : IVec S_ 1 := constantI S_ 1 1#1
  let main_v49 : IVec S_ 1 := (fun x v => Host.reduce IntOp.andi x v reducesTo_S128x8_S_d0_1 h_S_) main_v48 main_c
  let main_v50 : FVec F S8 .f32 := Host.absf main_arg2
  let main_cst_12 : FVec F S_ .f32 := constant S_ .f32 0x7F800000#32
  let main_v51 : FVec F S8 .f32 := broadcastInDim S8 ![] bcast_S_S8 main_cst_12
  let main_v52 : IVec S8 1 := cmpf .olt main_v50 main_v51
  let main_c_13 : IVec S_ 1 := constantI S_ 1 1#1
  let main_v53 : IVec S_ 1 := (fun x v => Host.reduce IntOp.andi x v reducesTo_S8_S_d0 h_S_) main_v52 main_c_13
  fn_part3 (F := F) main_arg0 main_arg5 main_arg6 main_v45 main_v49 main_v53

def fn_part1 {F : FTy → Type} [FloatOps F] (main_arg0 : FVec F S2x128x2048 .f32) (main_arg1 : FVec F S128x8 .f32) (main_arg2 : FVec F S8 .f32) (main_arg3 : FVec F S8x64x128 .f32) (main_arg4 : FVec F S8x64x128x8 .f32) (main_arg5 : FVec F S64x8 .f32) (main_arg6 : FVec F S8 .f32) (main_v0 : FVec F S2x2048x128 .f32) (main_v16 : FVec F S2x2048x2x8 .f32) (main_v18 : FVec F S2x2048x2x8 .f32) : IVec S_ 1 :=
  let main_v19 : FVec F S2x2048x2x8 .f32 := mulf main_v18 main_v16
  let main_cst_2 : FVec F S_ .f32 := constant S_ .f32 0x00000000#32
  let main_v20 : FVec F S2x2048x8 .f32 := (fun x v => Host.reduceAdd x v reducesTo_S2x2048x2x8_S2x2048x8_d2 h_S_) main_v19 main_cst_2
  let main_v21 : FVec F S2x2048x128 .f32 := fn_silu (F := F) main_v0
  let main_cst_3 : FVec F S_ .f32 := constant S_ .f32 0xC0000000#32
  let main_cst_4 : FVec F S_ .f32 := constant S_ .f32 0x40000000#32
  let main_v22 : FVec F S8 .f32 := fn_linspace (F := F) main_cst_3 main_cst_4
  let main_cst_5 : FVec F S_ .f32 := constant S_ .f32 0x40800000#32
  let main_cst_6 : FVec F S_ .f32 := constant S_ .f32 0x40E00000#32
  let main_v23 : FVec F S_ .f32 := Host.divf main_cst_5 main_cst_6
  let main_v24 : FVec F S2x2048x128x1 .f32 := broadcastInDim S2x2048x128x1 ![0, 1, 2] bcast_S2x2048x128_S2x2048x128x1_0_1_2 main_v0
  let main_v25 : FVec F S1x1x1x8 .f32 := broadcastInDim S1x1x1x8 ![3] bcast_S8_S1x1x1x8_3 main_v22
  let main_v26 : FVec F S2x2048x128x8 .f32 := broadcastInDim S2x2048x128x8 ![0, 1, 2, 3] bcast_S2x2048x128x1_S2x2048x128x8_0_1_2_3 main_v24
  let main_v27 : FVec F S2x2048x128x8 .f32 := broadcastInDim S2x2048x128x8 ![0, 1, 2, 3] bcast_S1x1x1x8_S2x2048x128x8_0_1_2_3 main_v25
  let main_v28 : FVec F S2x2048x128x8 .f32 := subf main_v26 main_v27
  let main_v29 : FVec F S2x2048x128x8 .f32 := mulf main_v28 main_v28
  let main_v30 : FVec F S2x2048x128x8 .f32 := Host.negf main_v29
  let main_cst_7 : FVec F S_ .f32 := constant S_ .f32 0x40000000#32
  let main_v31 : FVec F S_ .f32 := mulf main_cst_7 main_v23
  let main_v32 : FVec F S_ .f32 := mulf main_v31 main_v23
  let main_v33 : FVec F S2x2048x128x8 .f32 := broadcastInDim S2x2048x128x8 ![] bcast_S_S2x2048x128x8 main_v32
  let main_v34 : FVec F S2x2048x128x8 .f32 := Host.divf main_v30 main_v33
  let main_v35 : FVec F S2x2048x128x8 .f32 := Host.exp main_v34
  let main_v36 : FVec F S2x2048x8x64 .f32 := (fun l r => Host.dotGeneral dot_S2x2048x128_S8x64x128_S2x2048x8x64_2_2_01_01_n_n none l r) main_v21 main_arg3
  fn_part2 (F := F) main_arg0 main_arg1 main_arg2 main_arg4 main_arg5 main_arg6 main_v20 main_v35 main_v36

def fn {F : FTy → Type} [FloatOps F] (main_arg0 : FVec F S2x128x2048 .f32) (main_arg1 : FVec F S128x8 .f32) (main_arg2 : FVec F S8 .f32) (main_arg3 : FVec F S8x64x128 .f32) (main_arg4 : FVec F S8x64x128x8 .f32) (main_arg5 : FVec F S64x8 .f32) (main_arg6 : FVec F S8 .f32) (main_arg7 : FVec F S8x128x64 .f32) (main_arg8 : FVec F S8x128x64x8 .f32) : IVec S_ 1 :=
  let main_v0 : FVec F S2x2048x128 .f32 := (transpose S2x2048x128 [0, 2, 1] · transposes_S2x128x2048_S2x2048x128_0_2_1) main_arg0
  let main_v1 : FVec F S2x2048x8 .f32 := (fun l r => Host.dotGeneral dot_S2x2048x128_S128x8_S2x2048x8_2_0_01_1_n_n none l r) main_v0 main_arg1
  let main_v2 : FVec F S1x1x8 .f32 := broadcastInDim S1x1x8 ![2] bcast_S8_S1x1x8_2 main_arg2
  let main_v3 : FVec F S2x2048x8 .f32 := broadcastInDim S2x2048x8 ![0, 1, 2] bcast_S1x1x8_S2x2048x8_0_1_2 main_v2
  let main_v4 : FVec F S2x2048x8 .f32 := addf main_v1 main_v3
  let main_values : FVec F S2x2048x2 .f32 := (fun x => (Host.topK S2x2048x2 2 (FloatOps.cmpfTotal .gt) x sliceFits_S2x2048x8_S2x2048x2).1) main_v4
  let main_indices : IVec S2x2048x2 32 := (fun x => (Host.topK S2x2048x2 2 (FloatOps.cmpfTotal .gt) x sliceFits_S2x2048x8_S2x2048x2).2) main_v4
  let main_cst : FVec F S_ .f32 := constant S_ .f32 0xFF800000#32
  let main_v5 : FVec F S2x2048 .f32 := (fun x v => Host.reduce FloatOps.maximumf x v reducesTo_S2x2048x2_S2x2048_d2 h_S_) main_values main_cst
  let main_cst_0 : FVec F S_ .f32 := constant S_ .f32 0xFF800000#32
  let main_v6 : FVec F S2x2048 .f32 := broadcastInDim S2x2048 ![] bcast_S_S2x2048 main_cst_0
  let main_v7 : FVec F S2x2048 .f32 := maximumf main_v6 main_v5
  let main_v8 : FVec F S2x2048x1 .f32 := broadcastInDim S2x2048x1 ![0, 1] bcast_S2x2048_S2x2048x1_0_1 main_v7
  let main_v9 : FVec F S2x2048x2 .f32 := broadcastInDim S2x2048x2 ![0, 1, 2] bcast_S2x2048x1_S2x2048x2_0_1_2 main_v8
  let main_v10 : FVec F S2x2048x2 .f32 := subf main_values main_v9
  let main_v11 : FVec F S2x2048x2 .f32 := Host.exp main_v10
  let main_cst_1 : FVec F S_ .f32 := constant S_ .f32 0x00000000#32
  let main_v12 : FVec F S2x2048 .f32 := (fun x v => Host.reduceAdd x v reducesTo_S2x2048x2_S2x2048_d2 h_S_) main_v11 main_cst_1
  let main_v13 : FVec F S2x2048x1 .f32 := broadcastInDim S2x2048x1 ![0, 1] bcast_S2x2048_S2x2048x1_0_1 main_v12
  let main_v14 : FVec F S2x2048x2 .f32 := broadcastInDim S2x2048x2 ![0, 1, 2] bcast_S2x2048x1_S2x2048x2_0_1_2 main_v13
  let main_v15 : FVec F S2x2048x2 .f32 := Host.divf main_v11 main_v14
  let main_v16 : FVec F S2x2048x2x8 .f32 := fn_one_hot (F := F) main_indices
  let main_v17 : FVec F S2x2048x2x1 .f32 := broadcastInDim S2x2048x2x1 ![0, 1, 2] bcast_S2x2048x2_S2x2048x2x1_0_1_2 main_v15
  let main_v18 : FVec F S2x2048x2x8 .f32 := broadcastInDim S2x2048x2x8 ![0, 1, 2, 3] bcast_S2x2048x2x1_S2x2048x2x8_0_1_2_3 main_v17
  fn_part1 (F := F) main_arg0 main_arg1 main_arg2 main_arg3 main_arg4 main_arg5 main_arg6 main_v0 main_v16 main_v18
-- ==== Kernel.lean ====
abbrev S2x128x2048 : Shape := ⟨3, ![2, 128, 2048]⟩
abbrev S128x8 : Shape := ⟨2, ![128, 8]⟩
abbrev S8 : Shape := ⟨1, ![8]⟩
abbrev S8x64x128 : Shape := ⟨3, ![8, 64, 128]⟩
abbrev S8x64x128x8 : Shape := ⟨4, ![8, 64, 128, 8]⟩
abbrev S64x8 : Shape := ⟨2, ![64, 8]⟩
abbrev S8x128x64 : Shape := ⟨3, ![8, 128, 64]⟩
abbrev S8x128x64x8 : Shape := ⟨4, ![8, 128, 64, 8]⟩
abbrev S512x128 : Shape := ⟨2, ![512, 128]⟩
abbrev S8x64x8x128 : Shape := ⟨4, ![8, 64, 8, 128]⟩
abbrev S512x1024 : Shape := ⟨2, ![512, 1024]⟩
abbrev S512x1152 : Shape := ⟨2, ![512, 1152]⟩
abbrev S1024x64 : Shape := ⟨2, ![1024, 64]⟩
abbrev S8x128x8x64 : Shape := ⟨4, ![8, 128, 8, 64]⟩
abbrev S1024x512 : Shape := ⟨2, ![1024, 512]⟩
abbrev S1024x576 : Shape := ⟨2, ![1024, 576]⟩
abbrev S8x1 : Shape := ⟨2, ![8, 1]⟩
abbrev S8x2 : Shape := ⟨2, ![8, 2]⟩
abbrev S128x2 : Shape := ⟨2, ![128, 2]⟩
abbrev S1x128x2048 : Shape := ⟨3, ![1, 128, 2048]⟩
abbrev S64x128 : Shape := ⟨2, ![64, 128]⟩
abbrev S128x2048 : Shape := ⟨2, ![128, 2048]⟩
abbrev S8x2048 : Shape := ⟨2, ![8, 2048]⟩
abbrev S1x2048 : Shape := ⟨2, ![1, 2048]⟩
abbrev S1024x2048 : Shape := ⟨2, ![1024, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩
abbrev S1x128 : Shape := ⟨2, ![1, 128]⟩
abbrev S64x2 : Shape := ⟨2, ![64, 2]⟩
abbrev S1x2 : Shape := ⟨2, ![1, 2]⟩
abbrev S512x2 : Shape := ⟨2, ![512, 2]⟩
abbrev S1024x2 : Shape := ⟨2, ![1024, 2]⟩
abbrev S2x128 : Shape := ⟨2, ![2, 128]⟩
abbrev S2x128x1 : Shape := ⟨3, ![2, 128, 1]⟩

abbrev nBuf : Space → Nat
  | .hbm => 26
  | .vmem => 9
  | .smem => 0
  | _ => 0

abbrev bufTy : (tb : Table) → Fin (tcTables nBuf tb) → BufTy
  | .hbm, ⟨0, _⟩ => ⟨S2x128x2048, .f32⟩
  | .hbm, ⟨1, _⟩ => ⟨S128x8, .f32⟩
  | .hbm, ⟨2, _⟩ => ⟨S8, .f32⟩
  | .hbm, ⟨3, _⟩ => ⟨S8x64x128, .f32⟩
  | .hbm, ⟨4, _⟩ => ⟨S8x64x128x8, .f32⟩
  | .hbm, ⟨5, _⟩ => ⟨S64x8, .f32⟩
  | .hbm, ⟨6, _⟩ => ⟨S8, .f32⟩
  | .hbm, ⟨7, _⟩ => ⟨S8x128x64, .f32⟩
  | .hbm, ⟨8, _⟩ => ⟨S8x128x64x8, .f32⟩
  | .hbm, ⟨9, _⟩ => ⟨S512x128, .f32⟩
  | .hbm, ⟨10, _⟩ => ⟨S8x64x8x128, .f32⟩
  | .hbm, ⟨11, _⟩ => ⟨S512x1024, .f32⟩
  | .hbm, ⟨12, _⟩ => ⟨S512x1152, .f32⟩
  | .hbm, ⟨13, _⟩ => ⟨S512x1152, .bf16⟩
  | .hbm, ⟨14, _⟩ => ⟨S1024x64, .f32⟩
  | .hbm, ⟨15, _⟩ => ⟨S8x128x8x64, .f32⟩
  | .hbm, ⟨16, _⟩ => ⟨S1024x512, .f32⟩
  | .hbm, ⟨17, _⟩ => ⟨S1024x576, .f32⟩
  | .hbm, ⟨18, _⟩ => ⟨S1024x576, .bf16⟩
  | .hbm, ⟨19, _⟩ => ⟨S8x1, .f32⟩
  | .hbm, ⟨20, _⟩ => ⟨S8x1, .f32⟩
  | .hbm, ⟨21, _⟩ => ⟨S8x2, .f32⟩
  | .hbm, ⟨22, _⟩ => ⟨S128x2, .f32⟩
  | .hbm, ⟨23, _⟩ => ⟨S2x128, .f32⟩
  | .hbm, ⟨24, _⟩ => ⟨S2x128x1, .f32⟩
  | .hbm, ⟨25, _⟩ => ⟨S2x128x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x8, .f32⟩
  | .local _ .vmem, ⟨3, _⟩ => ⟨S64x8, .f32⟩
  | .local _ .vmem, ⟨4, _⟩ => ⟨S8x2, .f32⟩
  | .local _ .vmem, ⟨5, _⟩ => ⟨S512x1152, .bf16⟩
  | .local _ .vmem, ⟨6, _⟩ => ⟨S1024x576, .bf16⟩
  | .local _ .vmem, ⟨7, _⟩ => ⟨S128x2, .f32⟩
  | .local _ .vmem, ⟨8, _⟩ => ⟨S64x128, .f32⟩
  | _, _ => ⟨S2x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨2, ![2, 1], ![false, false]⟩

def k0_cond3 (i : grid0.Coords) : BitVec 1 :=
  let arg0 : BitVec 32 := BitVec.ofNat 32 (i 0).val
  let c1_i32 : BitVec 32 := 1#32
  let v316 : BitVec 1 := Scalar.cmpi .eq arg0 c1_i32
  let arg1 : BitVec 32 := BitVec.ofNat 32 (i 1).val
  let c0_i32_74 : BitVec 32 := 0#32
  let v317 : BitVec 1 := Scalar.cmpi .eq arg1 c0_i32_74
  let v318 : BitVec 1 := Scalar.andi v316 v317
  let v319 : BitVec 32 := Scalar.extui v318
  let c0_i32_75 : BitVec 32 := 0#32
  let v320 : BitVec 1 := Scalar.cmpi .ne v319 c0_i32_75
  v320

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x576 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2x128x2048 : Shape := ⟨3, ![2, 128, 2048]⟩
abbrev S128x8 : Shape := ⟨2, ![128, 8]⟩
abbrev S8 : Shape := ⟨1, ![8]⟩
abbrev S8x64x128 : Shape := ⟨3, ![8, 64, 128]⟩
abbrev S8x64x128x8 : Shape := ⟨4, ![8, 64, 128, 8]⟩
abbrev S64x8 : Shape := ⟨2, ![64, 8]⟩
abbrev S8x128x64 : Shape := ⟨3, ![8, 128, 64]⟩
abbrev S8x128x64x8 : Shape := ⟨4, ![8, 128, 64, 8]⟩
abbrev S2x2048x128 : Shape := ⟨3, ![2, 2048, 128]⟩
abbrev S2x2048x8 : Shape := ⟨3, ![2, 2048, 8]⟩
abbrev S1x1x8 : Shape := ⟨3, ![1, 1, 8]⟩
abbrev S2x2048x2 : Shape := ⟨3, ![2, 2048, 2]⟩
abbrev S_ : Shape := ⟨0, ![]⟩
abbrev S2x2048 : Shape := ⟨2, ![2, 2048]⟩
abbrev S2x2048x1 : Shape := ⟨3, ![2, 2048, 1]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S7 : Shape := ⟨1, ![7]⟩
abbrev S1 : Shape := ⟨1, ![1]⟩
abbrev S2x2048x128x1 : Shape := ⟨4, ![2, 2048, 128, 1]⟩
abbrev S2x2048x128x8 : Shape := ⟨4, ![2, 2048, 128, 8]⟩
abbrev S2x2048x8x64 : Shape := ⟨4, ![2, 2048, 8, 64]⟩
abbrev S2x2048x8x1 : Shape := ⟨4, ![2, 2048, 8, 1]⟩
abbrev S2x2048x64 : Shape := ⟨3, ![2, 2048, 64]⟩
abbrev S2x64 : Shape := ⟨2, ![2, 64]⟩
abbrev S2x1x64 : Shape := ⟨3, ![2, 1, 64]⟩
abbrev S2x2048x64x1 : Shape := ⟨4, ![2, 2048, 64, 1]⟩
abbrev S2x2048x64x8 : Shape := ⟨4, ![2, 2048, 64, 8]⟩
abbrev S2x2048x8x128 : Shape := ⟨4, ![2, 2048, 8, 128]⟩

abbrev nBuf : Space → Nat
  | .hbm => 192
  | .vmem => 0
  | .smem => 0
  | _ => 0

abbrev hbmTy0_0 (i : Nat) : BufTy := match i % 128 with
  | 0 => ⟨S2x128x2048, .f32⟩
  | 1 => ⟨S128x8, .f32⟩
  | 2 => ⟨S8, .f32⟩
  | 3 => ⟨S8x64x128, .f32⟩
  | 4 => ⟨S8x64x128x8, .f32⟩
  | 5 => ⟨S64x8, .f32⟩
  | 6 => ⟨S8, .f32⟩
  | 7 => ⟨S8x128x64, .f32⟩
  | 8 => ⟨S8x128x64x8, .f32⟩
  | 9 => ⟨S2x2048x128, .f32⟩
  | 10 => ⟨S2x2048x8, .f32⟩
  | 11 => ⟨S1x1x8, .f32⟩
  | 12 => ⟨S2x2048x8, .f32⟩
  | 13 => ⟨S2x2048x8, .f32⟩
  | 14 => ⟨S2x2048x2, .f32⟩
  | 15 => ⟨S2x2048x2, .i32⟩
  | 16 => ⟨S_, .f32⟩
  | 17 => ⟨S2x2048, .f32⟩
  | 18 => ⟨S_, .f32⟩
  | 19 => ⟨S2x2048, .f32⟩
  | 20 => ⟨S2x2048, .f32⟩
  | 21 => ⟨S2x2048x1, .f32⟩
  | 22 => ⟨S2x2048x2, .f32⟩
  | 23 => ⟨S2x2048x2, .f32⟩
  | 24 => ⟨S2x2048x2, .f32⟩
  | 25 => ⟨S_, .f32⟩
  | 26 => ⟨S2x2048, .f32⟩
  | 27 => ⟨S2x2048x1, .f32⟩
  | 28 => ⟨S2x2048x2, .f32⟩
  | 29 => ⟨S2x2048x2, .f32⟩
  | 30 => ⟨S2x2048x2x1, .i32⟩
  | 31 => ⟨S1x1x1x8, .i32⟩
  | 32 => ⟨S2x2048x2x8, .i32⟩
  | 33 => ⟨S2x2048x2x8, .i32⟩
  | 34 => ⟨S2x2048x2x8, .i1⟩
  | 35 => ⟨S2x2048x2x8, .f32⟩
  | 36 => ⟨S2x2048x2x1, .f32⟩
  | 37 => ⟨S2x2048x2x8, .f32⟩
  | 38 => ⟨S2x2048x2x8, .f32⟩
  | 39 => ⟨S_, .f32⟩
  | 40 => ⟨S2x2048x8, .f32⟩
  | 41 => ⟨S2x2048x128, .f32⟩
  | 42 => ⟨S2x2048x128, .f32⟩
  | 43 => ⟨S_, .f32⟩
  | 44 => ⟨S2x2048x128, .f32⟩
  | 45 => ⟨S2x2048x128, .f32⟩
  | 46 => ⟨S_, .f32⟩
  | 47 => ⟨S2x2048x128, .f32⟩
  | 48 => ⟨S2x2048x128, .f32⟩
  | 49 => ⟨S2x2048x128, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S7, .f32⟩
  | 58 => ⟨S_, .f32⟩
  | 59 => ⟨S7, .f32⟩
  | 60 => ⟨S7, .f32⟩
  | 61 => ⟨S1, .f32⟩
  | 62 => ⟨S_, .f32⟩
  | 63 => ⟨S7, .f32⟩
  | 64 => ⟨S7, .f32⟩
  | 65 => ⟨S7, .f32⟩
  | 66 => ⟨S7, .f32⟩
  | 67 => ⟨S1, .f32⟩
  | 68 => ⟨S7, .f32⟩
  | 69 => ⟨S7, .f32⟩
  | 70 => ⟨S7, .f32⟩
  | 71 => ⟨S1, .f32⟩
  | 72 => ⟨S8, .f32⟩
  | 73 => ⟨S_, .f32⟩
  | 74 => ⟨S_, .f32⟩
  | 75 => ⟨S_, .f32⟩
  | 76 => ⟨S2x2048x128x1, .f32⟩
  | 77 => ⟨S1x1x1x8, .f32⟩
  | 78 => ⟨S2x2048x128x8, .f32⟩
  | 79 => ⟨S2x2048x128x8, .f32⟩
  | 80 => ⟨S2x2048x128x8, .f32⟩
  | 81 => ⟨S2x2048x128x8, .f32⟩
  | 82 => ⟨S2x2048x128x8, .f32⟩
  | 83 => ⟨S_, .f32⟩
  | 84 => ⟨S_, .f32⟩
  | 85 => ⟨S_, .f32⟩
  | 86 => ⟨S2x2048x128x8, .f32⟩
  | 87 => ⟨S2x2048x128x8, .f32⟩
  | 88 => ⟨S2x2048x128x8, .f32⟩
  | 89 => ⟨S2x2048x8x64, .f32⟩
  | 90 => ⟨S2x2048x8x64, .f32⟩
  | 91 => ⟨S2x2048x8x64, .f32⟩
  | 92 => ⟨S2x2048x8x1, .f32⟩
  | 93 => ⟨S2x2048x8x64, .f32⟩
  | 94 => ⟨S2x2048x8x64, .f32⟩
  | 95 => ⟨S_, .f32⟩
  | 96 => ⟨S2x2048x64, .f32⟩
  | 97 => ⟨S_, .f32⟩
  | 98 => ⟨S2x64, .f32⟩
  | 99 => ⟨S_, .f32⟩
  | 100 => ⟨S2x64, .f32⟩
  | 101 => ⟨S2x64, .f32⟩
  | 102 => ⟨S2x1x64, .f32⟩
  | 103 => ⟨S2x2048x64, .f32⟩
  | 104 => ⟨S2x2048x8, .f32⟩
  | 105 => ⟨S1x1x8, .f32⟩
  | 106 => ⟨S2x2048x8, .f32⟩
  | 107 => ⟨S2x2048x8, .f32⟩
  | 108 => ⟨S2x2048x2, .f32⟩
  | 109 => ⟨S2x2048x2, .i32⟩
  | 110 => ⟨S_, .f32⟩
  | 111 => ⟨S2x2048, .f32⟩
  | 112 => ⟨S_, .f32⟩
  | 113 => ⟨S2x2048, .f32⟩
  | 114 => ⟨S2x2048, .f32⟩
  | 115 => ⟨S2x2048x1, .f32⟩
  | 116 => ⟨S2x2048x2, .f32⟩
  | 117 => ⟨S2x2048x2, .f32⟩
  | 118 => ⟨S2x2048x2, .f32⟩
  | 119 => ⟨S_, .f32⟩
  | 120 => ⟨S2x2048, .f32⟩
  | 121 => ⟨S2x2048x1, .f32⟩
  | 122 => ⟨S2x2048x2, .f32⟩
  | 123 => ⟨S2x2048x2, .f32⟩
  | 124 => ⟨S2x2048x2x1, .i32⟩
  | 125 => ⟨S1x1x1x8, .i32⟩
  | 126 => ⟨S2x2048x2x8, .i32⟩
  | 127 => ⟨S2x2048x2x8, .i32⟩
  | _ => ⟨S2x128x2048, .f32⟩

abbrev hbmTy0_1 (i : Nat) : BufTy := match i % 128 with
  | 0 => ⟨S2x2048x2x8, .i1⟩
  | 1 => ⟨S2x2048x2x8, .f32⟩
  | 2 => ⟨S2x2048x2x1, .f32⟩
  | 3 => ⟨S2x2048x2x8, .f32⟩
  | 4 => ⟨S2x2048x2x8, .f32⟩
  | 5 => ⟨S_, .f32⟩
  | 6 => ⟨S2x2048x8, .f32⟩
  | 7 => ⟨S2x2048x64, .f32⟩
  | 8 => ⟨S2x2048x64, .f32⟩
  | 9 => ⟨S_, .f32⟩
  | 10 => ⟨S2x2048x64, .f32⟩
  | 11 => ⟨S2x2048x64, .f32⟩
  | 12 => ⟨S_, .f32⟩
  | 13 => ⟨S2x2048x64, .f32⟩
  | 14 => ⟨S2x2048x64, .f32⟩
  | 15 => ⟨S2x2048x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S7, .f32⟩
  | 24 => ⟨S_, .f32⟩
  | 25 => ⟨S7, .f32⟩
  | 26 => ⟨S7, .f32⟩
  | 27 => ⟨S1, .f32⟩
  | 28 => ⟨S_, .f32⟩
  | 29 => ⟨S7, .f32⟩
  | 30 => ⟨S7, .f32⟩
  | 31 => ⟨S7, .f32⟩
  | 32 => ⟨S7, .f32⟩
  | 33 => ⟨S1, .f32⟩
  | 34 => ⟨S7, .f32⟩
  | 35 => ⟨S7, .f32⟩
  | 36 => ⟨S7, .f32⟩
  | 37 => ⟨S1, .f32⟩
  | 38 => ⟨S8, .f32⟩
  | 39 => ⟨S_, .f32⟩
  | 40 => ⟨S_, .f32⟩
  | 41 => ⟨S_, .f32⟩
  | 42 => ⟨S2x2048x64x1, .f32⟩
  | 43 => ⟨S1x1x1x8, .f32⟩
  | 44 => ⟨S2x2048x64x8, .f32⟩
  | 45 => ⟨S2x2048x64x8, .f32⟩
  | 46 => ⟨S2x2048x64x8, .f32⟩
  | 47 => ⟨S2x2048x64x8, .f32⟩
  | 48 => ⟨S2x2048x64x8, .f32⟩
  | 49 => ⟨S_, .f32⟩
  | 50 => ⟨S_, .f32⟩
  | 51 => ⟨S_, .f32⟩
  | 52 => ⟨S2x2048x64x8, .f32⟩
  | 53 => ⟨S2x2048x64x8, .f32⟩
  | 54 => ⟨S2x2048x64x8, .f32⟩
  | 55 => ⟨S2x2048x8x128, .f32⟩
  | 56 => ⟨S2x2048x8x128, .f32⟩
  | 57 => ⟨S2x2048x8x128, .f32⟩
  | 58 => ⟨S2x2048x8x1, .f32⟩
  | 59 => ⟨S2x2048x8x128, .f32⟩
  | 60 => ⟨S2x2048x8x128, .f32⟩
  | 61 => ⟨S_, .f32⟩
  | 62 => ⟨S2x2048x128, .f32⟩
  | 63 => ⟨S2x128x2048, .f32⟩
  | _ => ⟨S2x128x2048, .f32⟩

abbrev hbmTy (i : Nat) : BufTy := match i / 128 with
  | 0 => hbmTy0_0 i
  | 1 => hbmTy0_1 i
  | _ => ⟨S2x128x2048, .f32⟩

abbrev bufTy : (tb : Table) → Fin (tcTables nBuf tb) → BufTy
  | .hbm, ⟨i, _⟩ => hbmTy i
  | _, _ => ⟨S2x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_values : Ref sig .tc := ⟨.hbm, 14, rfl⟩
abbrev main_indices : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v21 : Ref sig .tc := ⟨.hbm, 49, rfl⟩
abbrev main_cst_3 : Ref sig .tc := ⟨.hbm, 50, rfl⟩
abbrev main_cst_4 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_cst : Ref sig .tc := ⟨.hbm, 55, rfl⟩
abbrev main_call2_v3 : Ref sig .tc := ⟨.hbm, 56, rfl⟩
abbrev main_call2_v4 : Ref sig .tc := ⟨.hbm, 57, rfl⟩
abbrev main_call2_cst_0 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_v15 : Ref sig .tc := ⟨.hbm, 70, rfl⟩
abbrev main_call2_v16 : Ref sig .tc := ⟨.hbm, 71, rfl⟩
abbrev main_v22 : Ref sig .tc := ⟨.hbm, 72, rfl⟩
abbrev main_cst_5 : Ref sig .tc := ⟨.hbm, 73, rfl⟩
abbrev main_cst_6 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_7 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_8 : Ref sig .tc := ⟨.hbm, 95, rfl⟩
abbrev main_v42 : Ref sig .tc := ⟨.hbm, 96, rfl⟩
abbrev main_cst_9 : Ref sig .tc := ⟨.hbm, 97, rfl⟩
abbrev main_v43 : Ref sig .tc := ⟨.hbm, 98, rfl⟩
abbrev main_cst_10 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_values_11 : Ref sig .tc := ⟨.hbm, 108, rfl⟩
abbrev main_indices_12 : Ref sig .tc := ⟨.hbm, 109, rfl⟩
abbrev main_cst_13 : Ref sig .tc := ⟨.hbm, 110, rfl⟩
abbrev main_v52 : Ref sig .tc := ⟨.hbm, 111, rfl⟩
abbrev main_cst_14 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_15 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_cst_16 : Ref sig .tc := ⟨.hbm, 133, rfl⟩
abbrev main_v67 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v68 : Ref sig .tc := ⟨.hbm, 143, rfl⟩
abbrev main_cst_17 : Ref sig .tc := ⟨.hbm, 144, rfl⟩
abbrev main_cst_18 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_cst : Ref sig .tc := ⟨.hbm, 149, rfl⟩
abbrev main_call5_v3 : Ref sig .tc := ⟨.hbm, 150, rfl⟩
abbrev main_call5_v4 : Ref sig .tc := ⟨.hbm, 151, rfl⟩
abbrev main_call5_cst_0 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_cst_1 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_v15 : Ref sig .tc := ⟨.hbm, 164, rfl⟩
abbrev main_call5_v16 : Ref sig .tc := ⟨.hbm, 165, rfl⟩
abbrev main_v69 : Ref sig .tc := ⟨.hbm, 166, rfl⟩
abbrev main_cst_19 : Ref sig .tc := ⟨.hbm, 167, rfl⟩
abbrev main_cst_20 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_cst_21 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_cst_22 : Ref sig .tc := ⟨.hbm, 189, rfl⟩
abbrev main_v89 : Ref sig .tc := ⟨.hbm, 190, rfl⟩
abbrev main_v90 : Ref sig .tc := ⟨.hbm, 191, rfl⟩

abbrev nD : Nat := 1
abbrev τ : Topo := Topo.v7x

variable {F : FTy → Type} [FloatOps F]
-- ==== Proof.Layer.lean ====
module
public import proofs.«01_k».proof.Proof.Gen.KernelIdeal.Frame
@[expose] public section
noncomputable section
/-! The kernel's KAN-MoE layer, written once for both of its uses: `n` is the number of columns. -/
namespace Cert.KernelIdeal.Hand
open Idealize.ShloMosaic Idealize.ShloMosaic.TcCoe Idealize.SL.Sem
open Cert.KernelIdeal Cert.KernelIdeal.Gen
variable {F : FTy → Type} [FloatOps F]

/-- A matrix of `a` rows and `n` columns. -/
abbrev Mat (a n : Nat) : Shape := ⟨2, ![a, n]⟩

/-- A row holding one number throughout. -/
abbrev lit {a n : Nat} (w : BitVec 32) : FVec F (Mat a n) .f32 := broadcast (Mat a n) (Scalar.ofBits .f32 w)

/-- The two largest logits seen so far and the numbers of their experts. -/
structure Top (F : FTy → Type) (n : Nat) where
  m1 : FVec F (Mat 1 n) .f32
  i1 : FVec F (Mat 1 n) .f32
  m2 : FVec F (Mat 1 n) .f32
  i2 : FVec F (Mat 1 n) .f32

/-- The scan begins with expert 0 alone. -/
def Top.start {n : Nat} (r : FVec F (Mat 1 n) .f32) : Top F n := ⟨r, lit 0x00000000#32, lit 0xFF800000#32, lit 0x00000000#32⟩

/-- The scan meets expert number `w` (a float), whose logits are `v`. -/
def Top.step {n : Nat} (w : BitVec 32) (v : FVec F (Mat 1 n) .f32) (s : Top F n) : Top F n where
  m1 := select (cmpf .ogt v s.m1) v s.m1
  i1 := select (cmpf .ogt v s.m1) (lit w) s.i1
  m2 := select (cmpf .ogt v s.m1) s.m1
    (select (andi (xori (cmpf .ogt v s.m1) (constantI (Mat 1 n) 1 1#1)) (cmpf .ogt v s.m2)) v s.m2)
  i2 := select (cmpf .ogt v s.m1) s.i1
    (select (andi (xori (cmpf .ogt v s.m1) (constantI (Mat 1 n) 1 1#1)) (cmpf .ogt v s.m2)) (lit w) s.i2)

/-- The scan over eight rows. -/
def Top.scan {n : Nat} (r : Fin 8 → FVec F (Mat 1 n) .f32) : Top F n :=
  Top.step 0x40E00000#32 (r 7) <| Top.step 0x40C00000#32 (r 6) <| Top.step 0x40A00000#32 (r 5) <|
  Top.step 0x40800000#32 (r 4) <| Top.step 0x40400000#32 (r 3) <| Top.step 0x40000000#32 (r 2) <|
  Top.step 0x3F800000#32 (r 1) <| Top.start (r 0)

/-- The first gate. -/
def Top.g1 {n : Nat} (s : Top F n) : FVec F (Mat 1 n) .f32 := logistic (subf s.m1 s.m2)
/-- The second gate. -/
def Top.g2 {n : Nat} (s : Top F n) : FVec F (Mat 1 n) .f32 := subf (lit 0x3F800000#32) s.g1

/-- Expert `w`'s gate. -/
def Top.gate {n : Nat} (s : Top F n) (w : BitVec 32) : FVec F (Mat 1 n) .f32 :=
  addf (mulf s.g1 (sitofp .f32 (extui 32 (cmpf .oeq s.i1 (lit w)) (by decide))))
    (mulf s.g2 (sitofp .f32 (extui 32 (cmpf .oeq s.i2 (lit w)) (by decide))))

/-- The experts' numbers as floats. -/
def num : Fin 8 → BitVec 32 :=
  ![0x00000000#32, 0x3F800000#32, 0x40000000#32, 0x40400000#32, 0x40800000#32, 0x40A00000#32, 0x40C00000#32, 0x40E00000#32]

/-- The base activation. -/
def base {k n : Nat} (x : FVec F (Mat k n) .f32) : FVec F (Mat k n) .bf16 := truncf .bf16 (mulf x (logistic x)) (by decide)
/-- The clipped input. -/
def clip {k n : Nat} (x : FVec F (Mat k n) .f32) : FVec F (Mat k n) .f32 :=
  minimumf (lit 0x40C66666#32) (maximumf (lit 0xC0C66666#32) x)
/-- The factor common to all basis functions. -/
def amp {k n : Nat} (x : FVec F (Mat k n) .f32) : FVec F (Mat k n) .f32 :=
  exp (mulf (subf (lit 0x00000000#32) (addf (mulf (clip x) (clip x)) (mulf (lit 0x40800000#32) (clip x)))) (lit 0x3FC40000#32))
/-- The ratio of the recurrence. -/
def ratio {k n : Nat} (x : FVec F (Mat k n) .f32) : FVec F (Mat k n) .f32 := exp (mulf (clip x) (lit 0x3FE00000#32))
/-- The recurrence. -/
def power {k n : Nat} (x : FVec F (Mat k n) .f32) : Nat → FVec F (Mat k n) .f32
  | 0 => amp x
  | g + 1 => mulf (power x g) (ratio x)
/-- One basis function: number `g` with the exponent `w` of its constant. -/
def basis {k n : Nat} (x : FVec F (Mat k n) .f32) (g : Nat) (w : BitVec 32) : FVec F (Mat k n) .bf16 :=
  truncf .bf16 (mulf (power x g) (exp (lit w))) (by decide)
/-- The constants' exponents. -/
def expo : Fin 8 → BitVec 32 :=
  ![0xC0C40000#32, 0xC0480000#32, 0xBF900000#32, 0xBE000000#32, 0xBE000000#32, 0xBF900000#32, 0xC0480000#32, 0xC0C40000#32]

/-- The experts' outputs (`o` rows each, one below the other) weighted by the gates and added up. -/
def combine {o r n : Nat} (g : Fin 8 → FVec F (Mat 1 n) .f32) (eo : FVec F (Mat r n) .f32)
    (hs : ∀ e : Fin 8, (Mat r n).Slices ![e.val * o, 0] (Mat o n)) (hb : (Mat 1 n).Broadcasts (Mat o n)) : FVec F (Mat o n) .f32 :=
  let t (e : Fin 8) : FVec F (Mat o n) .f32 :=
    mulf (broadcastTo (Mat o n) (g e) hb) (extractStridedSlice (Mat o n) ![e.val * o, 0] eo (hs e))
  addf (addf (addf (addf (addf (addf (addf (t 0) (t 1)) (t 2)) (t 3)) (t 4)) (t 5)) (t 6)) (t 7)

/-- The gates of a matrix of logits. -/
def gates {n : Nat} (l : FVec F (Mat 8 n) .f32) (hr : ∀ e : Fin 8, (Mat 8 n).Slices ![e.val, 0] (Mat 1 n)) (e : Fin 8) : FVec F (Mat 1 n) .f32 :=
  (Top.scan fun e => extractStridedSlice (Mat 1 n) ![e.val, 0] l (hr e)).gate (num e)

/-- The basis functions' matrices, one below the other. -/
abbrev pieces {k n : Nat} (x : FVec F (Mat k n) .f32) : List (Sigma fun s : Shape => Vec F s .bf16) :=
  [⟨Mat k n, basis x 0 (expo 0)⟩, ⟨Mat k n, basis x 1 (expo 1)⟩, ⟨Mat k n, basis x 2 (expo 2)⟩, ⟨Mat k n, basis x 3 (expo 3)⟩,
   ⟨Mat k n, basis x 4 (expo 4)⟩, ⟨Mat k n, basis x 5 (expo 5)⟩, ⟨Mat k n, basis x 6 (expo 6)⟩, ⟨Mat k n, basis x 7 (expo 7)⟩]

/-- The encoder's logits. -/
def encLogits (x : FVec F S128x2048 .f32) (rb : FVec F S8x1 .f32) (rw : FVec F S128x8 .f32) : FVec F S8x2048 .f32 :=
  addf (matmul dot_S128x8_S128x2048_S8x2048_0_0_1_1_n_n none rw x (constant S8x2048 .f32 0x00000000#32))
    (broadcastTo S8x2048 (shapeCast S8x1 rb shapeCasts_S8x1_S8x1) broadcasts_S8x1_S8x2048)

/-- The encoder's expert outputs, one expert below the other. -/
def encExperts (x : FVec F S128x2048 .f32) (wa : FVec F S512x128 .bf16) (wb : FVec F S512x1024 .bf16) : FVec F S512x2048 .f32 :=
  addf (matmul dot_S512x128_S128x2048_S512x2048_1_0_0_1_n_n none (shapeCast S512x128 wa shapeCasts_S512x128_S512x128) (base x)
      (constant S512x2048 .f32 0x00000000#32))
    (matmul dot_S512x1024_S1024x2048_S512x2048_1_0_0_1_n_n none (shapeCast S512x1024 wb shapeCasts_S512x1024_S512x1024)
      (concatenate S1024x2048 0 (pieces x)
        concatenates_S128x2048_S128x2048_S128x2048_S128x2048_S128x2048_S128x2048_S128x2048_S128x2048_S1024x2048_d0)
      (constant S512x2048 .f32 0x00000000#32))

/-- The encoder's layer. -/
def enc (x : FVec F S128x2048 .f32) (rb : FVec F S8x1 .f32) (rw : FVec F S128x8 .f32)
    (wa : FVec F S512x128 .bf16) (wb : FVec F S512x1024 .bf16) : FVec F S64x2048 .f32 :=
  combine (o := 64) (gates (encLogits x rb rw) (by decide)) (encExperts x wa wb) (by decide) broadcasts_S1x2048_S64x2048

/-- A batch's column of the latent: the layer's sum over the columns times a constant, in lane `b`. -/
def contrib (b : BitVec 32) (h : FVec F S64x2048 .f32) : FVec F S64x128 .f32 :=
  select (broadcastTo S64x128 (shapeCast S1x128 (cmpi .eq (iota .tc S1x128 32 [1] iota_S1x128_d1_w32) (broadcast S1x128 b)) shapeCasts_S1x128_S1x128)
      broadcasts_S1x128_S64x128)
    (broadcastTo S64x128 (shapeCast S64x1 (mulf (shapeCast S64x1
        (multiReduction .add [1] S64 h 0x00000000#32 reduces_S64x2048_S64 (.inl rfl) rfl) shapeCasts_S64_S64x1)
      (lit 0x3A000000#32)) shapeCasts_S64x1_S64x1) broadcasts_S64x1_S64x128)
    (lit 0x00000000#32)

/-- The decoder's logits. -/
def decLogits (x : FVec F S64x2 .f32) (rb : FVec F S8x1 .f32) (rw : FVec F S64x8 .f32) : FVec F S8x2 .f32 :=
  addf (matmul dot_S64x8_S64x2_S8x2_0_0_1_1_n_n none rw x (constant S8x2 .f32 0x00000000#32))
    (broadcastTo S8x2 (shapeCast S8x1 rb shapeCasts_S8x1_S8x1) broadcasts_S8x1_S8x2)

/-- The decoder's expert outputs, one expert below the other. -/
def decExperts (x : FVec F S64x2 .f32) (wa : FVec F S1024x64 .bf16) (wb : FVec F S1024x512 .bf16) : FVec F S1024x2 .f32 :=
  addf (matmul dot_S1024x64_S64x2_S1024x2_1_0_0_1_n_n none (shapeCast S1024x64 wa shapeCasts_S1024x64_S1024x64) (base x)
      (constant S1024x2 .f32 0x00000000#32))
    (matmul dot_S1024x512_S512x2_S1024x2_1_0_0_1_n_n none (shapeCast S1024x512 wb shapeCasts_S1024x512_S1024x512)
      (concatenate S512x2 0 (pieces x) concatenates_S64x2_S64x2_S64x2_S64x2_S64x2_S64x2_S64x2_S64x2_S512x2_d0)
      (constant S1024x2 .f32 0x00000000#32))

/-- The decoder's layer. -/
def dec (x : FVec F S64x2 .f32) (rb : FVec F S8x1 .f32) (rw : FVec F S64x8 .f32)
    (wa : FVec F S1024x64 .bf16) (wb : FVec F S1024x512 .bf16) : FVec F S128x2 .f32 :=
  combine (o := 128) (gates (decLogits x rb rw) (by decide)) (decExperts x wa wb) (by decide) broadcasts_S1x2_S128x2
end Cert.KernelIdeal.Hand
end
end
-- ==== Proof.Points.lean ====
module
public import proofs.«01_k».proof.Proof.Layer
public import Idealize.ShloMosaic.Lib.Pipeline.Value
public import Idealize.ShloMosaic.Lib.Tactic
@[expose] public section
noncomputable section
/-! What the two grid points leave behind, in terms of the layer's definitions. -/
namespace Cert.KernelIdeal.Hand
open Idealize.ShloMosaic Idealize.ShloMosaic.TcCoe Idealize.SL.Sem
open Cert.KernelIdeal Cert.KernelIdeal.Gen
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A batch's latent column in its lane, from the blocks the body reads. -/
def encBlock (i : grid0.Coords) (x0 : Vec F S1x128x2048 .f32) (x1 : Vec F S128x8 .f32) (x3 : Vec F S8x2 .f32) (x4 : Vec F S512x1152 .bf16) :
    FVec F S64x128 .f32 :=
  contrib (BitVec.ofNat 32 (i 0).val) (enc (shapeCast S128x2048 x0 shapeCasts_S1x128x2048_S128x2048)
    (View.ld x3 (Rect.unit ![0, 0] ![8, 1] inb_S8x2_S8x1_0_0)) x1
    (View.ld x4 (Rect.unit ![0, 0] ![512, 128] inb_S512x1152_S512x128_0_0))
    (View.ld x4 (Rect.unit ![0, 128] ![512, 1024] inb_S512x1152_S512x1024_0_128)))

/-- The decoder's output, from the latent's buffer and the blocks the body reads. -/
def decBlock (lat : Vec F S64x128 .f32) (x2 : Vec F S64x8 .f32) (x3 : Vec F S8x2 .f32) (x5 : Vec F S1024x576 .bf16) : FVec F S128x2 .f32 :=
  dec (View.ld lat (Rect.unit ![0, 0] ![64, 2] inb_S64x128_S64x2_0_0)) (View.ld x3 (Rect.unit ![0, 1] ![8, 1] inb_S8x2_S8x1_0_1)) x2
    (View.ld x5 (Rect.unit ![0, 0] ![1024, 64] inb_S1024x576_S1024x64_0_0))
    (View.ld x5 (Rect.unit ![0, 64] ![1024, 512] inb_S1024x576_S1024x512_0_64))

/-- A load, through any rectangle, of a buffer that one store has filled. -/
theorem load_filled {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩), View.canon_unit_zero h]

/-- The first point leaves its latent column in the scratch buffer. -/
theorem sout_A (c : Dev nD) (i : grid0.Coords) (arg2 : Memref sig .tc .vmem S1x128x2048 .f32) (harg2 : arg2.IsWhole) (arg3 : Memref sig .tc .vmem S128x8 .f32) (harg3 : arg3.IsWhole) (arg4 : Memref sig .tc .vmem S64x8 .f32) (harg4 : arg4.IsWhole) (arg5 : Memref sig .tc .vmem S8x2 .f32) (harg5 : arg5.IsWhole) (arg6 : Memref sig .tc .vmem S512x1152 .bf16) (harg6 : arg6.IsWhole) (arg7 : Memref sig .tc .vmem S1024x576 .bf16) (harg7 : arg7.IsWhole) (arg8 : Memref sig .tc .vmem S128x2 .f32) (harg8 : arg8.IsWhole) (arg9 : Memref sig .tc .vmem S64x128 .f32) (harg9 : arg9.IsWhole)
    (hc0 : cond0_0 i) (hc1 : ¬ cond0_1 i) (hc2 : ¬ cond0_2 i)
    (x0 : Vec F S1x128x2048 .f32) (x1 : Vec F S128x8 .f32) (x2 : Vec F S64x8 .f32) (x3 : Vec F S8x2 .f32) (x4 : Vec F S512x1152 .bf16) (x5 : Vec F S1024x576 .bf16) :
    sout0_A_0 c i arg2 harg2 arg3 harg3 arg4 harg4 arg5 harg5 arg6 harg6 arg7 harg7 arg8 harg8 arg9 harg9 hc0 hc1 hc2 x0 x1 x2 x3 x4 x5 = shapeCast S64x128 (encBlock i x0 x1 x3 x4) shapeCasts_S64x128_S64x128 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4 x5)]
  unfold kernelRun0_A
  dsimp only
  sl_unfold_words
  refine (View.canon_unit_zero hz _ _).trans ?_
  simp only [View.readAt_eq_ld, harg2.read_unread, harg3.read_unread, harg5.read_unread, harg6.read_unread,
    View.ld_unit_zero (S := S128x8) hz, View.ld_unit_zero (S := S1x128x2048) hz3]
  sl_kernel_rfl

/-- The second point writes the decoder's output. -/
theorem out_B (c : Dev nD) (i : grid0.Coords) (arg2 : Memref sig .tc .vmem S1x128x2048 .f32) (harg2 : arg2.IsWhole) (arg3 : Memref sig .tc .vmem S128x8 .f32) (harg3 : arg3.IsWhole) (arg4 : Memref sig .tc .vmem S64x8 .f32) (harg4 : arg4.IsWhole) (arg5 : Memref sig .tc .vmem S8x2 .f32) (harg5 : arg5.IsWhole) (arg6 : Memref sig .tc .vmem S512x1152 .bf16) (harg6 : arg6.IsWhole) (arg7 : Memref sig .tc .vmem S1024x576 .bf16) (harg7 : arg7.IsWhole) (arg8 : Memref sig .tc .vmem S128x2 .f32) (harg8 : arg8.IsWhole) (arg9 : Memref sig .tc .vmem S64x128 .f32) (harg9 : arg9.IsWhole)
    (hc0 : ¬ cond0_0 i) (hc1 : cond0_1 i) (hc2 : cond0_2 i)
    (x0 : Vec F S1x128x2048 .f32) (x1 : Vec F S128x8 .f32) (x2 : Vec F S64x8 .f32) (x3 : Vec F S8x2 .f32) (x4 : Vec F S512x1152 .bf16) (x5 : Vec F S1024x576 .bf16) (xs0 : Vec F S64x128 .f32) :
    out0_B_6 c i arg2 harg2 arg3 harg3 arg4 harg4 arg5 harg5 arg6 harg6 arg7 harg7 arg8 harg8 arg9 harg9 hc0 hc1 hc2 x0 x1 x2 x3 x4 x5 xs0 =
      decBlock (shapeCast S64x128 (addf xs0 (encBlock i x0 x1 x3 x4)) shapeCasts_S64x128_S64x128) x2 x3 x5 := by
  unfold out0_B_6
  rw [View.read_writes_eq_canon _ _ _ (cover0_B_6 c i arg2 harg2 arg3 harg3 arg4 harg4 arg5 harg5 arg6 harg6 arg7 harg7 arg8 harg8 arg9 harg9 hc0 hc1 hc2 x0 x1 x2 x3 x4 x5 xs0)]
  unfold kernelRun0_B
  dsimp only
  sl_unfold_words
  refine (View.canon_unit_zero hz _ _).trans ?_
  simp only [View.readAt_eq_ld, harg2.read_unread, harg3.read_unread, harg4.read_unread, harg5.read_unread, harg6.read_unread,
    harg7.read_unread, harg9.read_unread, load_filled (S := S64x128) _ hz,
    View.ld_unit_zero (S := S128x8) hz, View.ld_unit_zero (S := S64x8) hz, View.ld_unit_zero (S := S64x128) hz, View.ld_unit_zero (S := S1x128x2048) hz3]
  sl_kernel_rfl
end Cert.KernelIdeal.Hand
end
end
-- ==== Proof.KRun.lean ====
module
public import proofs.«01_k».proof.Proof.Points
public import Idealize.ShloMosaic.Lib.Pipeline.Regions
public import Idealize.ShloMosaic.Lib.Pointwise
@[expose] public section
noncomputable section
/-! The kernel's run: what the whole program leaves in its result, as a function of the arguments. -/
namespace Cert.KernelIdeal.Hand
open Idealize.ShloMosaic Idealize.ShloMosaic.TcCoe Idealize.SL.Sem
open Cert.KernelIdeal Cert.KernelIdeal.Gen
variable {F : FTy → Type} [FloatOps F]

/-- The encoder's weights side by side. -/
def encW (a3 : Vec F S8x64x128 .f32) (a4 : Vec F S8x64x128x8 .f32) : Vec F S512x1152 .bf16 :=
  truncf .bf16 (concatenate S512x1152 1 [⟨S512x128, shapeCast S512x128 a3 shapeCasts_S8x64x128_S512x128⟩,
    ⟨S512x1024, shapeCast S512x1024 (transpose S8x64x8x128 [0, 1, 3, 2] a4 transposes_S8x64x128x8_S8x64x8x128_0_1_3_2)
      shapeCasts_S8x64x8x128_S512x1024⟩] concatenates_S512x128_S512x1024_S512x1152_d1) bitsLt_bf16_f32
/-- The decoder's weights side by side. -/
def decW (a7 : Vec F S8x128x64 .f32) (a8 : Vec F S8x128x64x8 .f32) : Vec F S1024x576 .bf16 :=
  truncf .bf16 (concatenate S1024x576 1 [⟨S1024x64, shapeCast S1024x64 a7 shapeCasts_S8x128x64_S1024x64⟩,
    ⟨S1024x512, shapeCast S1024x512 (transpose S8x128x8x64 [0, 1, 3, 2] a8 transposes_S8x128x64x8_S8x128x8x64_0_1_3_2)
      shapeCasts_S8x128x8x64_S1024x512⟩] concatenates_S1024x64_S1024x512_S1024x576_d1) bitsLt_bf16_f32
/-- The routers' biases side by side. -/
def biases (a2 a6 : Vec F S8 .f32) : Vec F S8x2 .f32 :=
  concatenate S8x2 1 [⟨S8x1, broadcastInDim S8x1 ![0] bcast_S8_S8x1_0 a2⟩, ⟨S8x1, broadcastInDim S8x1 ![0] bcast_S8_S8x1_0 a6⟩]
    concatenates_S8x1_S8x1_S8x2_d1
/-- One batch of the input. -/
def batch (a0 : Vec F S2x128x2048 .f32) (b : Fin 2) : Vec F S1x128x2048 .f32 := fun j => a0 (ix3 b (j 1) (j 2))

/-- The latent's buffer before the decoder reads it. -/
def latBuf (a0 : Vec F S2x128x2048 .f32) (a1 : Vec F S128x8 .f32) (bs : Vec F S8x2 .f32) (w : Vec F S512x1152 .bf16) : Vec F S64x128 .f32 :=
  shapeCast S64x128 (addf (shapeCast S64x128 (encBlock (grid0.coords t0_0) (batch a0 0) a1 bs w) shapeCasts_S64x128_S64x128)
    (encBlock (grid0.coords t0_1) (batch a0 1) a1 bs w)) shapeCasts_S64x128_S64x128

/-- The region's result. -/
def outOf (a0 : Vec F S2x128x2048 .f32) (a1 : Vec F S128x8 .f32) (a2 : Vec F S8 .f32) (a3 : Vec F S8x64x128 .f32) (a4 : Vec F S8x64x128x8 .f32)
    (a5 : Vec F S64x8 .f32) (a6 : Vec F S8 .f32) (a7 : Vec F S8x128x64 .f32) (a8 : Vec F S8x128x64x8 .f32) : Vec F S128x2 .f32 :=
  decBlock (latBuf a0 a1 (biases a2 a6) (encW a3 a4)) a5 (biases a2 a6) (decW a7 a8)

variable (m : ((ℓ : Loc nD τ sig) → Buf (Elt F) ℓ)) (ρ : Dev nD → PrngReg)

theorem V_v4 (c : Dev nD) : V m c main_v4 = encW (m ((c : Thread nD τ).loc main_arg3)) (m ((c : Thread nD τ).loc main_arg4)) := by
  show StableHlo.after (List.flatten [hostOps0]) _ _ = _
  simp only [hostOps0, List.flatten_cons, List.flatten_nil, List.append_nil]
  after_results
  rfl
theorem V_v9 (c : Dev nD) : V m c main_v9 = decW (m ((c : Thread nD τ).loc main_arg7)) (m ((c : Thread nD τ).loc main_arg8)) := by
  show StableHlo.after (List.flatten [hostOps0]) _ _ = _
  simp only [hostOps0, List.flatten_cons, List.flatten_nil, List.append_nil]
  after_results
  rfl
theorem V_v12 (c : Dev nD) : V m c main_v12 = biases (m ((c : Thread nD τ).loc main_arg2)) (m ((c : Thread nD τ).loc main_arg6)) := by
  show StableHlo.after (List.flatten [hostOps0]) _ _ = _
  simp only [hostOps0, List.flatten_cons, List.flatten_nil, List.append_nil]
  after_results
  rfl

theorem blk1 (c : Dev nD) (t : Fin cfg0.N) : iblk m c 1 t = V m c main_arg1 := by
  have h : win0_1.index t 0 = 0 ∧ win0_1.index t 1 = 0 := by rcases fin_N0 t with rfl | rfl <;> decide
  funext j
  show V m c main_arg1 (((cfg0.win 1).blk t).view.emb j) = V m c main_arg1 j
  congr 1; funext a; apply Fin.ext
  match a with
  | ⟨0, _⟩ => show win0_1.index t 0 * 128 + 1 * (j 0).val = (j 0).val; omega
  | ⟨1, _⟩ => show win0_1.index t 1 * 8 + 1 * (j 1).val = (j 1).val; omega
theorem blk2 (c : Dev nD) (t : Fin cfg0.N) : iblk m c 2 t = V m c main_arg5 := by
  have h : win0_2.index t 0 = 0 ∧ win0_2.index t 1 = 0 := by rcases fin_N0 t with rfl | rfl <;> decide
  funext j
  show V m c main_arg5 (((cfg0.win 2).blk t).view.emb j) = V m c main_arg5 j
  congr 1; funext a; apply Fin.ext
  match a with
  | ⟨0, _⟩ => show win0_2.index t 0 * 64 + 1 * (j 0).val = (j 0).val; omega
  | ⟨1, _⟩ => show win0_2.index t 1 * 8 + 1 * (j 1).val = (j 1).val; omega
theorem blk3 (c : Dev nD) (t : Fin cfg0.N) : iblk m c 3 t = V m c main_v12 := by
  have h : win0_3.index t 0 = 0 ∧ win0_3.index t 1 = 0 := by rcases fin_N0 t with rfl | rfl <;> decide
  funext j
  show V m c main_v12 (((cfg0.win 3).blk t).view.emb j) = V m c main_v12 j
  congr 1; funext a; apply Fin.ext
  match a with
  | ⟨0, _⟩ => show win0_3.index t 0 * 8 + 1 * (j 0).val = (j 0).val; omega
  | ⟨1, _⟩ => show win0_3.index t 1 * 2 + 1 * (j 1).val = (j 1).val; omega
theorem blk4 (c : Dev nD) (t : Fin cfg0.N) : iblk m c 4 t = V m c main_v4 := by
  have h : win0_4.index t 0 = 0 ∧ win0_4.index t 1 = 0 := by rcases fin_N0 t with rfl | rfl <;> decide
  funext j
  show V m c main_v4 (((cfg0.win 4).blk t).view.emb j) = V m c main_v4 j
  congr 1; funext a; apply Fin.ext
  match a with
  | ⟨0, _⟩ => show win0_4.index t 0 * 512 + 1 * (j 0).val = (j 0).val; omega
  | ⟨1, _⟩ => show win0_4.index t 1 * 1152 + 1 * (j 1).val = (j 1).val; omega
theorem blk5 (c : Dev nD) (t : Fin cfg0.N) : iblk m c 5 t = V m c main_v9 := by
  have h : win0_5.index t 0 = 0 ∧ win0_5.index t 1 = 0 := by rcases fin_N0 t with rfl | rfl <;> decide
  funext j
  show V m c main_v9 (((cfg0.win 5).blk t).view.emb j) = V m c main_v9 j
  congr 1; funext a; apply Fin.ext
  match a with
  | ⟨0, _⟩ => show win0_5.index t 0 * 1024 + 1 * (j 0).val = (j 0).val; omega
  | ⟨1, _⟩ => show win0_5.index t 1 * 576 + 1 * (j 1).val = (j 1).val; omega
theorem blk0 (c : Dev nD) (t : Fin cfg0.N) (b : Fin 2) (hb : t.val = b.val) : iblk m c 0 t = batch (V m c main_arg0) b := by
  have h : win0_0.index t 0 = t.val ∧ win0_0.index t 1 = 0 ∧ win0_0.index t 2 = 0 := by
    rcases fin_N0 t with rfl | rfl <;> decide
  obtain ⟨h0, h1, h2⟩ := h
  funext j
  show V m c main_arg0 (((cfg0.win 0).blk t).view.emb j) = V m c main_arg0 (ix3 b (j 1) (j 2))
  have hj : (j 0).val < 1 := (j 0).isLt
  congr 1; funext a; apply Fin.ext
  match a with
  | ⟨0, _⟩ => show win0_0.index t 0 * 1 + 1 * (j 0).val = b.val; omega
  | ⟨1, _⟩ => show win0_0.index t 1 * 128 + 1 * (j 1).val = (j 1).val; omega
  | ⟨2, _⟩ => show win0_0.index t 2 * 2048 + 1 * (j 2).val = (j 2).val; omega

/-- The region's result, of the arguments as launched. -/
abbrev outM (c : Dev nD) : Vec F S128x2 .f32 :=
  outOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The first point leaves the first batch's column in the scratch buffer. -/
theorem scratch0 (c : Dev nD) : (outsAt0 m c t0_0.val t0_0.isLt).2 =
    shapeCast S64x128 (encBlock (grid0.coords t0_0) (batch (m ((c : Thread nD τ).loc main_arg0)) 0) (m ((c : Thread nD τ).loc main_arg1))
      (biases (m ((c : Thread nD τ).loc main_arg2)) (m ((c : Thread nD τ).loc main_arg6)))
      (encW (m ((c : Thread nD τ).loc main_arg3)) (m ((c : Thread nD τ).loc main_arg4)))) shapeCasts_S64x128_S64x128 := by
  rw [outsAt0_A m c t0_0 (by decide) (by decide) (by decide)]
  dsimp only
  rw [sout_A, blk0 m c t0_0 0 rfl, blk1, blk3, blk4, V_main_arg0, V_main_arg1, V_v12, V_v4]

/-- The second point writes the region's result. -/
theorem out1 (c : Dev nD) : (outsAt0 m c t0_1.val t0_1.isLt).1 = outM m c := by
  rw [outsAt0_B m c t0_1 (by decide) (by decide) (by decide)]
  dsimp only
  rw [out_B, blk0 m c t0_1 1 rfl, blk1, blk2, blk3, blk4, blk5, V_main_arg0, V_main_arg1, V_main_arg5, V_v12, V_v4, V_v9]
  have h := scratch0 m c
  show decBlock (shapeCast S64x128 (addf (outsAt0 m c t0_0.val t0_0.isLt).2 _) _) _ _ _ = _
  rw [h]
  rfl

theorem flushed_eq (c : Dev nD) (t : Fin cfg0.N) (hf : (cfg0.win 6).flush t = true) :
    (dats m 0 c).flushed 6 t = ((cfg0.win 6).blk t).view.read (Elt F) (outM m c) := by
  have hN : cfg0.N = 2 := N_0
  have h3 : t.val = 1 := by have := (flush0_6 t).mp hf; have := t.isLt; omega
  obtain rfl : t = t0_1 := Fin.ext h3
  show (cfg0.win 6).cut (grid0.coords t0_1) ((dats m 0 c).after 6 t0_1) = _
  rw [after0_6, out1]
  have hz' : (fun a => win0_6.index t0_1 a * main_v13.ty.shape.size a) = fun _ => 0 := funext fun a => by fin_cases a <;> decide
  exact (Memref.read_access_unit_zero (Elt F) main_v13 hz' (fun a => by rw [congrFun hz' a]; simp) (outM m c)).symm

/-- The region's output array after the run. -/
theorem final_o (c : Dev nD) : (dats m 0 c).arrAt 6 cfg0.N = outM m c :=
  (dats m 0 c).arrAt_eq_of_cover 6 (outM m c) (flushed_eq m c) fun i => ⟨t0_1, (flush0_6 t0_1).mpr rfl, by
    show i ∈ ((View.whole main_v13).slice (win0_6.rect t0_1)).set
    rw [View.set_slice_whole, Rect.mem_set_unit]
    intro a
    have h0 : (i 0).val < 128 := (i 0).isLt
    have h1 : (i 1).val < 2 := (i 1).isLt
    match a with
    | ⟨0, _⟩ =>
      show win0_6.index t0_1 0 * win0_6.size 0 ≤ (i 0).val ∧ (i 0).val < win0_6.index t0_1 0 * win0_6.size 0 + win0_6.xsize (grid0.coords t0_1) 0
      rw [show win0_6.index t0_1 0 * win0_6.size 0 = 0 from by decide +kernel, show win0_6.xsize (grid0.coords t0_1) 0 = 128 from by decide +kernel]
      exact ⟨Nat.zero_le _, by omega⟩
    | ⟨1, _⟩ =>
      show win0_6.index t0_1 1 * win0_6.size 1 ≤ (i 1).val ∧ (i 1).val < win0_6.index t0_1 1 * win0_6.size 1 + win0_6.xsize (grid0.coords t0_1) 1
      rw [show win0_6.index t0_1 1 * win0_6.size 1 = 0 from by decide +kernel, show win0_6.xsize (grid0.coords t0_1) 1 = 2 from by decide +kernel]
      exact ⟨Nat.zero_le _, by omega⟩⟩

/-- The result: the decoder's column of each batch repeated over the sequence. -/
def spread (o : Vec F S128x2 .f32) : Vec F S2x128x2048 .f32 :=
  broadcastInDim S2x128x2048 ![0, 1, 2] bcast_S2x128x1_S2x128x2048_0_1_2
    (broadcastInDim S2x128x1 ![0, 1] bcast_S2x128_S2x128x1_0_1 (transpose S2x128 [1, 0] o transposes_S128x2_S2x128_1_0))

theorem tail_v16 (c : Dev nD) : Pipeline.afterTail₀ cfgs (dats m) 0 (V0 m) [hostOps1] c main_v16 = spread (outM m c) := by
  unfold Pipeline.afterTail₀
  have h : Pipeline.withArrays (cfgs 0).spec c (V0 m c) (fun w => (dats m 0 c).arrAt w (cfgs 0).N) (Proc.devRef .tc main_v13) = outM m c :=
    (Pipeline.withArrays_arr spec0 winFacts0.arr_inj c (V0 m c) _ 6).trans (final_o m c)
  simp only [hostOps1, List.flatten_cons, List.flatten_nil, List.append_nil]
  after_results
  rw [h]
  rfl

/-- The run. -/
theorem run : θ_run defs (onTc (τ := τ) (main (F := F))) ⟨m, fun _ => 0, ρ⟩ (fun r => ∀ c : Dev nD,
      r.2.mem ((c : Thread nD τ).loc main_v16) = spread (outM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨
      ((h c).2 main_v16 (Pipeline.mem_restRefs_of main_v16 (by decide) (by decide))).trans (tail_v16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 2).trans (((dats m 0 c).arrAt_in 2 rfl _).trans ((A_eq m c 2).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)
end Cert.KernelIdeal.Hand
end
end
-- ==== Proof.Best.lean ====
module
public import Idealize.ShloMosaic.Lib.SortPrefix
public import Idealize.ShloMosaic.PureOps.Ideal
@[expose] public section
noncomputable section
/-! The two largest of eight numbers, ties going to the smaller position. -/
namespace Cert.Kan
open Idealize.ShloMosaic

/-- Position `a`'s number is larger, or equal with `a` the smaller position. -/
def Ahead (f : Fin 8 → ℝ) (a b : Fin 8) : Prop := f b < f a ∨ (f a = f b ∧ a < b)

/-- Of the positions up to `n`, `a` is the best and `b` the best but one. -/
structure Best (f : Fin 8 → ℝ) (n : Nat) (a b : Fin 8) : Prop where
  ha : a.val ≤ n
  hb : b.val ≤ n
  hne : a ≠ b
  first : ∀ k : Fin 8, k.val ≤ n → k ≠ a → Ahead f a k
  second : ∀ k : Fin 8, k.val ≤ n → k ≠ a → k ≠ b → Ahead f b k

/-- The comparator of the sort. -/
def larger (f : Fin 8 → ℝ) (k k' : Fin 8) : Bool := decide (f k' < f k)
/-- The comparator with its ties resolved. -/
def largerTie (f : Fin 8 → ℝ) (k k' : Fin 8) : Bool := decide (f k' < f k) || (decide (f k = f k') && decide (k < k'))

theorem largerTie_iff (f : Fin 8 → ℝ) (k k' : Fin 8) : largerTie f k k' = true ↔ Ahead f k k' := by
  simp [largerTie, Ahead]

theorem strict (f : Fin 8 → ℝ) : StrictTotalBefore (largerTie f) :=
  StrictTotalBefore.of_key_then_position (fun x y : ℝ => decide (y < x)) f (by simp)
    (fun a b c h h' => by simp only [decide_eq_true_eq] at *; linarith)
    (fun a b => by simp only [decide_eq_true_eq]; rcases lt_trichotomy a b with h | h | h <;> simp [h])

/-- The sort resolves ties by position. -/
theorem sort_tie (f : Fin 8 → ℝ) (l : List (Fin 8)) (hl : l.Pairwise (· < ·)) : stableSort (larger f) l = stableSort (largerTie f) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (hl.1 b hb').le
    simp [larger, largerTie, this]

theorem sorted_tie (f : Fin 8 → ℝ) : sortedFrom (larger f) = sortedFrom (largerTie f) := by
  have h : sortPositions 8 (larger f) = sortPositions 8 (largerTie f) := sort_tie f _ (List.pairwise_lt_finRange 8)
  funext k
  unfold sortedFrom
  rw [List.get_of_eq h]
  rfl

/-- The position of the largest, and of the largest but one. -/
def top (f : Fin 8 → ℝ) (i : Fin 2) : Fin 8 := sortedFrom (larger f) (i.castLE (by decide))

theorem Best.top_eq {f : Fin 8 → ℝ} {a b : Fin 8} (h : Best f 7 a b) : top f 0 = a ∧ top f 1 = b := by
  have hA := (strict f).sortedFrom_eq_of_prefix (k := 2) (by decide) ![a, b]
    (by
      intro i j hij
      fin_cases i <;> fin_cases j <;> simp_all [h.hne, h.hne.symm])
    (by
      intro i j hij
      fin_cases i <;> fin_cases j <;> simp_all
      exact (strict f).asymm _ _ ((largerTie_iff _ _ _).mpr (h.first b (by omega) h.hne.symm)))
    (by
      intro i p hp
      have ha : p ≠ a := fun e => hp 0 e.symm
      have hb : p ≠ b := fun e => hp 1 e.symm
      fin_cases i
      · exact (strict f).asymm _ _ ((largerTie_iff _ _ _).mpr (h.first p (by omega) ha))
      · exact (strict f).asymm _ _ ((largerTie_iff _ _ _).mpr (h.second p (by omega) ha hb)))
  unfold top
  rw [sorted_tie]
  exact ⟨hA 0, hA 1⟩

/-- The first two positions. -/
theorem best_start (f : Fin 8 → ℝ) : Best f 1 (if f 0 < f 1 then 1 else 0) (if f 0 < f 1 then 0 else 1) := by
  split
  · rename_i h
    refine ⟨by decide, by decide, by decide, fun k hk hne => ?_, fun k hk h1 h2 => ?_⟩
    · obtain rfl : k = 0 := by omega
      exact Or.inl h
    · omega
  · rename_i h
    refine ⟨by decide, by decide, by decide, fun k hk hne => ?_, fun k hk h1 h2 => ?_⟩
    · obtain rfl : k = 1 := by omega
      rcases lt_or_eq_of_le (not_lt.mp h) with h | h
      · exact Or.inl h
      · exact Or.inr ⟨h.symm, by decide⟩
    · omega

/-- One more position. -/
theorem Best.step {f : Fin 8 → ℝ} {n : Nat} {a b : Fin 8} (h : Best f n a b) (c : Fin 8) (hc : c.val = n + 1) :
    Best f (n + 1) (if f a < f c then c else a) (if f a < f c then a else if f b < f c then c else b) := by
  have ha := h.ha
  have hb := h.hb
  have hab := h.first b hb h.hne.symm
  have trans : ∀ x y z : Fin 8, Ahead f x y → Ahead f y z → Ahead f x z := fun x y z h1 h2 => by
    rw [← largerTie_iff] at *; exact (strict f).trans x y z h1 h2
  split
  · rename_i h1
    have hca : Ahead f c a := Or.inl h1
    refine ⟨by omega, by omega, by intro e; omega, fun k hk hne => ?_, fun k hk h1 h2 => ?_⟩
    · by_cases e : k = a
      · subst e; exact hca
      · exact trans _ _ _ hca (h.first k (by omega) e)
    · exact h.first k (by omega) h2
  · rename_i h1
    have hac : Ahead f a c := by
      rcases lt_or_eq_of_le (not_lt.mp h1) with h | h
      · exact Or.inl h
      · exact Or.inr ⟨h.symm, by omega⟩
    have hfirst : ∀ k : Fin 8, k.val ≤ n + 1 → k ≠ a → Ahead f a k := fun k hk hne => by
      by_cases e : k = c
      · subst e; exact hac
      · exact h.first k (by omega) hne
    split
    · rename_i h2
      have hcb : Ahead f c b := Or.inl h2
      refine ⟨by omega, by omega, by intro e; omega, hfirst, fun k hk h1 h2 => ?_⟩
      by_cases e : k = b
      · subst e; exact hcb
      · exact trans _ _ _ hcb (h.second k (by omega) h1 e)
    · rename_i h2
      have hbc : Ahead f b c := by
        rcases lt_or_eq_of_le (not_lt.mp h2) with h | h
        · exact Or.inl h
        · exact Or.inr ⟨h.symm, by omega⟩
      refine ⟨by omega, by omega, h.hne, hfirst, fun k hk h1 h2 => ?_⟩
      by_cases e : k = c
      · subst e; exact hbc
      · exact h.second k (by omega) h1 h2
/-- Somewhere the two largest are. -/
theorem best_top (f : Fin 8 → ℝ) : Best f 7 (top f 0) (top f 1) := by
  have h := ((((((best_start f).step 2 rfl).step 3 rfl).step 4 rfl).step 5 rfl).step 6 rfl).step 7 rfl
  obtain ⟨h0, h1⟩ := h.top_eq
  rw [h0, h1]
  exact h
end Cert.Kan
end
end
-- ==== Proof.Consts.lean ====
module
public import Idealize.ShloMosaic.PureOps.Ideal
@[expose] public section
noncomputable section
/-! The constants of both programs as real numbers. -/
namespace Cert.Kan
open Idealize.ShloMosaic

theorem w_zero : Ideal.ofBits .f32 0x00000000#32 = ((0 : ℝ) : EReal) := by simp [Ideal.ofBits, Ideal.ieee, -EReal.coe_mul]
theorem w_one : Ideal.ofBits .f32 0x3F800000#32 = ((1 : ℝ) : EReal) := by simp [Ideal.ofBits, Ideal.ieee, -EReal.coe_mul]; norm_num
theorem w_two : Ideal.ofBits .f32 0x40000000#32 = ((2 : ℝ) : EReal) := by simp [Ideal.ofBits, Ideal.ieee, -EReal.coe_mul]; norm_num
theorem w_three : Ideal.ofBits .f32 0x40400000#32 = ((3 : ℝ) : EReal) := by simp [Ideal.ofBits, Ideal.ieee, -EReal.coe_mul]; norm_num
theorem w_four : Ideal.ofBits .f32 0x40800000#32 = ((4 : ℝ) : EReal) := by simp [Ideal.ofBits, Ideal.ieee, -EReal.coe_mul]; norm_num
theorem w_five : Ideal.ofBits .f32 0x40A00000#32 = ((5 : ℝ) : EReal) := by simp [Ideal.ofBits, Ideal.ieee, -EReal.coe_mul]; norm_num
theorem w_six : Ideal.ofBits .f32 0x40C00000#32 = ((6 : ℝ) : EReal) := by simp [Ideal.ofBits, Ideal.ieee, -EReal.coe_mul]; norm_num
theorem w_seven : Ideal.ofBits .f32 0x40E00000#32 = ((7 : ℝ) : EReal) := by simp [Ideal.ofBits, Ideal.ieee, -EReal.coe_mul]; norm_num
theorem w_neg_two : Ideal.ofBits .f32 0xC0000000#32 = ((-2 : ℝ) : EReal) := by simp [Ideal.ofBits, Ideal.ieee, -EReal.coe_mul]; norm_num
theorem w_2048 : Ideal.ofBits .f32 0x45000000#32 = ((2048 : ℝ) : EReal) := by simp [Ideal.ofBits, Ideal.ieee, -EReal.coe_mul]; norm_num
theorem w_inv2048 : Ideal.ofBits .f32 0x3A000000#32 = ((1 / 2048 : ℝ) : EReal) := by simp [Ideal.ofBits, Ideal.ieee, -EReal.coe_mul]; norm_num
theorem w_neg_inf : Ideal.ofBits .f32 0xFF800000#32 = ⊥ := by simp [Ideal.ofBits, Ideal.ieee]
theorem w_inf : Ideal.ofBits .f32 0x7F800000#32 = ⊤ := by simp [Ideal.ofBits, Ideal.ieee]
/-- The clip's bound. -/
def bound : ℝ := 13002342 / 2097152
theorem w_hi : Ideal.ofBits .f32 0x40C66666#32 = ((bound : ℝ) : EReal) := by
  unfold bound; simp [Ideal.ofBits, Ideal.ieee, -EReal.coe_mul]; norm_num
theorem w_lo : Ideal.ofBits .f32 0xC0C66666#32 = ((-bound : ℝ) : EReal) := by
  unfold bound; simp [Ideal.ofBits, Ideal.ieee, -EReal.coe_mul]; norm_num
theorem w_inv2h2 : Ideal.ofBits .f32 0x3FC40000#32 = ((49 / 32 : ℝ) : EReal) := by simp [Ideal.ofBits, Ideal.ieee, -EReal.coe_mul]; norm_num
theorem w_invh : Ideal.ofBits .f32 0x3FE00000#32 = ((7 / 4 : ℝ) : EReal) := by simp [Ideal.ofBits, Ideal.ieee, -EReal.coe_mul]; norm_num
theorem w_e0 : Ideal.ofBits .f32 0xC0C40000#32 = ((-49 / 8 : ℝ) : EReal) := by simp [Ideal.ofBits, Ideal.ieee, -EReal.coe_mul]; norm_num
theorem w_e1 : Ideal.ofBits .f32 0xC0480000#32 = ((-25 / 8 : ℝ) : EReal) := by simp [Ideal.ofBits, Ideal.ieee, -EReal.coe_mul]; norm_num
theorem w_e2 : Ideal.ofBits .f32 0xBF900000#32 = ((-9 / 8 : ℝ) : EReal) := by simp [Ideal.ofBits, Ideal.ieee, -EReal.coe_mul]; norm_num
theorem w_e3 : Ideal.ofBits .f32 0xBE000000#32 = ((-1 / 8 : ℝ) : EReal) := by simp [Ideal.ofBits, Ideal.ieee, -EReal.coe_mul]; norm_num
end Cert.Kan
end
end
-- ==== Proof.Spec.lean ====
module
public import proofs.«01_k».proof.Proof.Best
public import proofs.«01_k».proof.Proof.Consts
@[expose] public section
noncomputable section
/-! The layer as mathematics: numbers in, numbers out. -/
namespace Cert.Kan
open Idealize.ShloMosaic

/-- The share of the larger of two logits. -/
def share (a b : ℝ) : ℝ := (1 + Real.exp (-(a - b)))⁻¹
/-- The gate of expert `e`. -/
def gate (l : Fin 8 → ℝ) (e : Fin 8) : ℝ :=
  share (l (top l 0)) (l (top l 1)) * (if top l 0 = e then 1 else 0) + (1 - share (l (top l 0)) (l (top l 1))) * (if top l 1 = e then 1 else 0)
/-- The base activation. -/
def act (r : ℝ) : ℝ := r * (1 + Real.exp (-r))⁻¹
/-- The centre of basis function `g`. -/
def center (g : Fin 8) : ℝ := -2 + 4 * (g.val : ℝ) / 7
/-- A basis function. -/
def bump (r : ℝ) (g : Fin 8) : ℝ := Real.exp (-((r - center g) * (r - center g)) * (49 / 32))
/-- One expert's output `o`. -/
def expert {k o : Nat} (x : Fin k → ℝ) (bw : Fin 8 → Fin o → Fin k → EReal) (sw : Fin 8 → Fin o → Fin k → Fin 8 → EReal) (e : Fin 8) (j : Fin o) : EReal :=
  (∑ i, ((act (x i) : ℝ) : EReal) * bw e j i) + ∑ i, ∑ g, ((bump (x i) g : ℝ) : EReal) * sw e j i g
/-- The layer's output `o`. -/
def layer {k o : Nat} (x : Fin k → ℝ) (l : Fin 8 → ℝ) (bw : Fin 8 → Fin o → Fin k → EReal) (sw : Fin 8 → Fin o → Fin k → Fin 8 → EReal) (j : Fin o) : EReal :=
  ∑ e, ((gate l e : ℝ) : EReal) * expert x bw sw e j

/-! ## The kernel's way to the basis functions -/

theorem clip_id {r : ℝ} (h : |r| ≤ bound) : min ((bound : ℝ) : EReal) (max ((-bound : ℝ) : EReal) (r : EReal)) = r := by
  obtain ⟨h1, h2⟩ := abs_le.mp h
  rw [max_eq_right (EReal.coe_le_coe_iff.mpr h1), min_eq_right (EReal.coe_le_coe_iff.mpr h2)]

/-- The recurrence's value. -/
def pow (r : ℝ) (n : Nat) : ℝ := Real.exp ((0 - (r * r + 4 * r)) * (49 / 32)) * Real.exp (r * (7 / 4)) ^ n

theorem pow_bump (r : ℝ) (g : Fin 8) (q : ℝ) (hq : q = -(7 - 2 * (g.val : ℝ)) ^ 2 / 8) : pow r g.val * Real.exp q = bump r g := by
  unfold pow bump center
  rw [← Real.exp_nat_mul, ← Real.exp_add, ← Real.exp_add, hq]
  congr 1
  ring

/-! ## The reference's softmax of two -/

theorem soft_first (a b : ℝ) (_h : b ≤ a) : Real.exp (a - a) / (Real.exp (a - a) + Real.exp (b - a)) = share a b := by
  unfold share
  rw [sub_self, Real.exp_zero, one_div, neg_sub]
theorem soft_second (a b : ℝ) (_h : b ≤ a) : Real.exp (b - a) / (Real.exp (a - a) + Real.exp (b - a)) = 1 - share a b := by
  unfold share
  rw [sub_self, Real.exp_zero, neg_sub]
  have : (1 + Real.exp (b - a)) ≠ 0 := by positivity
  field_simp
  ring

/-- A finite sum of real numbers is the real sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]
end Cert.Kan
end
end
-- ==== Proof.RLayer.lean ====
module
public import proofs.«01_k».proof.Proof.Gen.ReferenceIdeal.Run
public import proofs.«01_k».proof.Proof.Spec
public import Idealize.ShloMosaic.Lib.Pointwise
public import Idealize.ShloMosaic.Lib.Tactic
@[expose] public section
noncomputable section
/-! The reference's layer, named piece by piece. -/
namespace Cert.ReferenceIdeal.Hand
open Idealize.ShloMosaic Idealize.ShloMosaic.TcCoe Idealize.SL.Sem
open Cert.ReferenceIdeal Cert.ReferenceIdeal.Gen
variable {F : FTy → Type} [FloatOps F]

/-- A scalar constant. -/
abbrev num0 (w : BitVec 32) : FVec F S_ .f32 := constant S_ .f32 w
/-- The two largest logits. -/
def values (l : FVec F S2x2048x8 .f32) : FVec F S2x2048x2 .f32 :=
  (Host.topK S2x2048x2 2 (FloatOps.cmpfTotal .gt) l sliceFits_S2x2048x8_S2x2048x2).1
/-- Their experts. -/
def indices (l : FVec F S2x2048x8 .f32) : IVec S2x2048x2 32 :=
  (Host.topK S2x2048x2 2 (FloatOps.cmpfTotal .gt) l sliceFits_S2x2048x8_S2x2048x2).2
/-- The softmax's numerators, of two values. -/
def numer (v : FVec F S2x2048x2 .f32) : FVec F S2x2048x2 .f32 :=
  Host.exp (subf v (broadcastInDim S2x2048x2 ![0, 1, 2] bcast_S2x2048x1_S2x2048x2_0_1_2 (broadcastInDim S2x2048x1 ![0, 1] bcast_S2x2048_S2x2048x1_0_1
    (maximumf (broadcastInDim S2x2048 ![] bcast_S_S2x2048 (num0 0xFF800000#32))
      (Host.reduce FloatOps.maximumf v (num0 0xFF800000#32) reducesTo_S2x2048x2_S2x2048_d2 h_S_)))))
/-- The softmax, of its numerators. -/
def soft (n : FVec F S2x2048x2 .f32) : FVec F S2x2048x2 .f32 :=
  Host.divf n (broadcastInDim S2x2048x2 ![0, 1, 2] bcast_S2x2048x1_S2x2048x2_0_1_2 (broadcastInDim S2x2048x1 ![0, 1] bcast_S2x2048_S2x2048x1_0_1
    (Host.reduceAdd n (num0 0x00000000#32) reducesTo_S2x2048x2_S2x2048_d2 h_S_)))
/-- The experts one-hot. -/
def onehot (i : IVec S2x2048x2 32) : FVec F S2x2048x2x8 .f32 :=
  uitofp .f32 (cmpi .eq (broadcastInDim S2x2048x2x8 ![0, 1, 2, 3] bcast_S2x2048x2x1_S2x2048x2x8_0_1_2_3
      (broadcastInDim S2x2048x2x1 ![0, 1, 2] bcast_S2x2048x2_S2x2048x2x1_0_1_2 i))
    (broadcastInDim S2x2048x2x8 ![0, 1, 2, 3] bcast_S1x1x1x8_S2x2048x2x8_0_1_2_3 (iotaInDim S1x1x1x8 32 3)))
/-- The gates, of the softmax and the one-hot experts. -/
def mix (w : FVec F S2x2048x2 .f32) (h : FVec F S2x2048x2x8 .f32) : FVec F S2x2048x8 .f32 :=
  Host.reduceAdd (mulf (broadcastInDim S2x2048x2x8 ![0, 1, 2, 3] bcast_S2x2048x2x1_S2x2048x2x8_0_1_2_3
    (broadcastInDim S2x2048x2x1 ![0, 1, 2] bcast_S2x2048x2_S2x2048x2x1_0_1_2 w)) h) (num0 0x00000000#32) reducesTo_S2x2048x2x8_S2x2048x8_d2 h_S_
/-- The gates of the logits. -/
def gates (l : FVec F S2x2048x8 .f32) : FVec F S2x2048x8 .f32 := mix (soft (numer (values l))) (onehot (indices l))

/-- The fractions `g / 7`. -/
def frac : FVec F S7 .f32 := Host.divf (sitofp .f32 (iotaInDim S7 32 0)) (broadcastInDim S7 ![] bcast_S_S7 (num0 0x40E00000#32))
/-- The centres of the basis functions. -/
def centers : FVec F S8 .f32 :=
  concatenate S8 0 [⟨S7, (addf (mulf (broadcastInDim S7 ![0] bcast_S1_S7_0 (shapeCast _ (num0 0xC0000000#32) shapeCasts_S_S1))
      (subf (broadcastInDim S7 ![] bcast_S_S7 (num0 0x3F800000#32)) frac))
      (mulf (broadcastInDim S7 ![0] bcast_S1_S7_0 (shapeCast _ (num0 0x40000000#32) shapeCasts_S_S1)) frac))⟩,
    ⟨S1, (broadcastInDim S1 ![] bcast_S_S1 (num0 0x40000000#32))⟩] concatenates_S7_S1_S8_d0
/-- The grid's step. -/
def width : FVec F S_ .f32 := Host.divf (num0 0x40800000#32) (num0 0x40E00000#32)

/-! ## The encoder -/

def encLogits (x : FVec F S2x2048x128 .f32) (rw : FVec F S128x8 .f32) (rb : FVec F S8 .f32) : FVec F S2x2048x8 .f32 :=
  addf (Host.dotGeneral dot_S2x2048x128_S128x8_S2x2048x8_2_0_01_1_n_n none x rw)
    (broadcastInDim S2x2048x8 ![0, 1, 2] bcast_S1x1x8_S2x2048x8_0_1_2 (broadcastInDim S1x1x8 ![2] bcast_S8_S1x1x8_2 rb))
def encSilu (x : FVec F S2x2048x128 .f32) : FVec F S2x2048x128 .f32 :=
  mulf x (Host.divf (broadcastInDim S2x2048x128 ![] bcast_S_S2x2048x128 (num0 0x3F800000#32))
    (addf (broadcastInDim S2x2048x128 ![] bcast_S_S2x2048x128 (num0 0x3F800000#32)) (Host.exp (Host.negf x))))
def encDist (x : FVec F S2x2048x128 .f32) : FVec F S2x2048x128x8 .f32 :=
  subf (broadcastInDim S2x2048x128x8 ![0, 1, 2, 3] bcast_S2x2048x128x1_S2x2048x128x8_0_1_2_3 (broadcastInDim S2x2048x128x1 ![0, 1, 2] bcast_S2x2048x128_S2x2048x128x1_0_1_2 x))
    (broadcastInDim S2x2048x128x8 ![0, 1, 2, 3] bcast_S1x1x1x8_S2x2048x128x8_0_1_2_3 (broadcastInDim S1x1x1x8 ![3] bcast_S8_S1x1x1x8_3 centers))
def encBump (d : FVec F S2x2048x128x8 .f32) : FVec F S2x2048x128x8 .f32 :=
  Host.exp (Host.divf (Host.negf (mulf d d)) (broadcastInDim S2x2048x128x8 ![] bcast_S_S2x2048x128x8 (mulf (mulf (num0 0x40000000#32) width) width)))
def encExperts (s : FVec F S2x2048x128 .f32) (b : FVec F S2x2048x128x8 .f32) (bw : FVec F S8x64x128 .f32) (sw : FVec F S8x64x128x8 .f32) : FVec F S2x2048x8x64 .f32 :=
  addf (Host.dotGeneral dot_S2x2048x128_S8x64x128_S2x2048x8x64_2_2_01_01_n_n none s bw)
    (Host.dotGeneral dot_S2x2048x128x8_S8x64x128x8_S2x2048x8x64_32_32_01_01_n_n none b sw)
def encMix (g : FVec F S2x2048x8 .f32) (e : FVec F S2x2048x8x64 .f32) : FVec F S2x2048x64 .f32 :=
  Host.reduceAdd (mulf (broadcastInDim S2x2048x8x64 ![0, 1, 2, 3] bcast_S2x2048x8x1_S2x2048x8x64_0_1_2_3
    (broadcastInDim S2x2048x8x1 ![0, 1, 2] bcast_S2x2048x8_S2x2048x8x1_0_1_2 g)) e) (num0 0x00000000#32) reducesTo_S2x2048x8x64_S2x2048x64_d2 h_S_
/-- The layer. -/
def enc (x : FVec F S2x2048x128 .f32) (rw : FVec F S128x8 .f32) (rb : FVec F S8 .f32) (bw : FVec F S8x64x128 .f32) (sw : FVec F S8x64x128x8 .f32) : FVec F S2x2048x64 .f32 :=
  encMix (gates (encLogits x rw rb)) (encExperts (encSilu x) (encBump (encDist x)) bw sw)

/-! ## The decoder -/

def decLogits (x : FVec F S2x2048x64 .f32) (rw : FVec F S64x8 .f32) (rb : FVec F S8 .f32) : FVec F S2x2048x8 .f32 :=
  addf (Host.dotGeneral dot_S2x2048x64_S64x8_S2x2048x8_2_0_01_1_n_n none x rw)
    (broadcastInDim S2x2048x8 ![0, 1, 2] bcast_S1x1x8_S2x2048x8_0_1_2 (broadcastInDim S1x1x8 ![2] bcast_S8_S1x1x8_2 rb))
def decSilu (x : FVec F S2x2048x64 .f32) : FVec F S2x2048x64 .f32 :=
  mulf x (Host.divf (broadcastInDim S2x2048x64 ![] bcast_S_S2x2048x64 (num0 0x3F800000#32))
    (addf (broadcastInDim S2x2048x64 ![] bcast_S_S2x2048x64 (num0 0x3F800000#32)) (Host.exp (Host.negf x))))
def decDist (x : FVec F S2x2048x64 .f32) : FVec F S2x2048x64x8 .f32 :=
  subf (broadcastInDim S2x2048x64x8 ![0, 1, 2, 3] bcast_S2x2048x64x1_S2x2048x64x8_0_1_2_3 (broadcastInDim S2x2048x64x1 ![0, 1, 2] bcast_S2x2048x64_S2x2048x64x1_0_1_2 x))
    (broadcastInDim S2x2048x64x8 ![0, 1, 2, 3] bcast_S1x1x1x8_S2x2048x64x8_0_1_2_3 (broadcastInDim S1x1x1x8 ![3] bcast_S8_S1x1x1x8_3 centers))
def decBump (d : FVec F S2x2048x64x8 .f32) : FVec F S2x2048x64x8 .f32 :=
  Host.exp (Host.divf (Host.negf (mulf d d)) (broadcastInDim S2x2048x64x8 ![] bcast_S_S2x2048x64x8 (mulf (mulf (num0 0x40000000#32) width) width)))
def decExperts (s : FVec F S2x2048x64 .f32) (b : FVec F S2x2048x64x8 .f32) (bw : FVec F S8x128x64 .f32) (sw : FVec F S8x128x64x8 .f32) : FVec F S2x2048x8x128 .f32 :=
  addf (Host.dotGeneral dot_S2x2048x64_S8x128x64_S2x2048x8x128_2_2_01_01_n_n none s bw)
    (Host.dotGeneral dot_S2x2048x64x8_S8x128x64x8_S2x2048x8x128_32_32_01_01_n_n none b sw)
def decMix (g : FVec F S2x2048x8 .f32) (e : FVec F S2x2048x8x128 .f32) : FVec F S2x2048x128 .f32 :=
  Host.reduceAdd (mulf (broadcastInDim S2x2048x8x128 ![0, 1, 2, 3] bcast_S2x2048x8x1_S2x2048x8x128_0_1_2_3
    (broadcastInDim S2x2048x8x1 ![0, 1, 2] bcast_S2x2048x8_S2x2048x8x1_0_1_2 g)) e) (num0 0x00000000#32) reducesTo_S2x2048x8x128_S2x2048x128_d2 h_S_
/-- The layer. -/
def dec (x : FVec F S2x2048x64 .f32) (rw : FVec F S64x8 .f32) (rb : FVec F S8 .f32) (bw : FVec F S8x128x64 .f32) (sw : FVec F S8x128x64x8 .f32) : FVec F S2x2048x128 .f32 :=
  decMix (gates (decLogits x rw rb)) (decExperts (decSilu x) (decBump (decDist x)) bw sw)

/-- The latent. -/
def latent (a0 : FVec F S2x128x2048 .f32) (a1 : FVec F S128x8 .f32) (a2 : FVec F S8 .f32) (a3 : FVec F S8x64x128 .f32) (a4 : FVec F S8x64x128x8 .f32) : FVec F S2x64 .f32 :=
  Host.divf (Host.reduceAdd (enc (transpose S2x2048x128 [0, 2, 1] a0 transposes_S2x128x2048_S2x2048x128_0_2_1) a1 a2 a3 a4)
    (num0 0x00000000#32) reducesTo_S2x2048x64_S2x64_d1 h_S_) (broadcastInDim S2x64 ![] bcast_S_S2x64 (num0 0x45000000#32))
/-- The latent at every position. -/
def spreadLatent (l : FVec F S2x64 .f32) : FVec F S2x2048x64 .f32 :=
  broadcastInDim S2x2048x64 ![0, 1, 2] bcast_S2x1x64_S2x2048x64_0_1_2 (broadcastInDim S2x1x64 ![0, 2] bcast_S2x64_S2x1x64_0_2 l)
/-- The whole program. -/
def whole (a0 : FVec F S2x128x2048 .f32) (a1 : FVec F S128x8 .f32) (a2 : FVec F S8 .f32) (a3 : FVec F S8x64x128 .f32) (a4 : FVec F S8x64x128x8 .f32)
    (a5 : FVec F S64x8 .f32) (a6 : FVec F S8 .f32) (a7 : FVec F S8x128x64 .f32) (a8 : FVec F S8x128x64x8 .f32) : FVec F S2x128x2048 .f32 :=
  transpose S2x128x2048 [0, 2, 1] (dec (spreadLatent (latent a0 a1 a2 a3 a4)) a5 a6 a7 a8) transposes_S2x2048x128_S2x128x2048_0_2_1

open Cert.ReferenceIdeal.Value in
/-- The reference's run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (by sl_kernel_rfl), (h c).2⟩) (Cert.ReferenceIdeal.Value.run m ρ)
end Cert.ReferenceIdeal.Hand
end
end
-- ==== Proof.RGates.lean ====
module
public import proofs.«01_k».proof.Proof.RLayer
public import proofs.«01_k».proof.Proof.Best
public import proofs.«01_k».proof.Proof.Consts
public import Idealize.ShloMosaic.Lib.Pointwise
@[expose] public section
noncomputable section
/-! The reference's gates at an index. -/
namespace Cert.ReferenceIdeal.Hand
open Idealize.ShloMosaic Idealize.ShloMosaic.TcCoe Idealize.SL.Sem
open Cert.ReferenceIdeal Cert.ReferenceIdeal.Gen Cert.Kan

/-- The first two positions of a row. -/
abbrev col (i : Fin 2) : Fin 8 := i.castLE (by decide)

theorem along_row (b : Fin 2) (s : Fin 2048) (k k' : Fin 8) : Shape.Idx.along (s := S2x2048x8) (ix3 b s k') (2 : Fin 3) k = ix3 b s k := by
  unfold Shape.Idx.along
  funext a
  fin_cases a <;> rfl

/-- The sort of a row of logits is the sort of its numbers. -/
theorem sort_row (l : FVec Ideal S2x2048x8 .f32) (b : Fin 2) (s : Fin 2048) (f : Fin 8 → ℝ) (hf : ∀ e, l (ix3 b s e) = ((f e : ℝ) : EReal)) (i : Fin 2)
    (J : S2x2048x8.Idx) (hJ : J = ix3 b s (col i)) :
    J.along (2 : Fin 3) (sortedFrom (fun k k' : Fin 8 => FloatOps.cmpfTotal .gt (l (J.along (2 : Fin 3) k)) (l (J.along (2 : Fin 3) k')) == 1#1) (J (2 : Fin 3)))
      = ix3 b s (top f i) := by
  subst hJ
  have hcmp : (fun k k' : Fin 8 => FloatOps.cmpfTotal (F := Ideal) .gt (l (Shape.Idx.along (s := S2x2048x8) (ix3 b s (col i)) (2 : Fin 3) k))
      (l (Shape.Idx.along (s := S2x2048x8) (ix3 b s (col i)) (2 : Fin 3) k')) == 1#1) = larger f := by
    funext k k'
    rw [along_row, along_row, hf, hf]
    show (BitVec.ofBool (decide (((f k' : ℝ) : EReal) < ((f k : ℝ) : EReal))) == 1#1) = _
    rw [larger]
    simp only [EReal.coe_lt_coe_iff]
    by_cases h : f k' < f k <;> simp [h]
  refine (along_row b s _ (col i)).trans ?_
  rw [hcmp]
  rfl

theorem slice_row (b : Fin 2) (s : Fin 2048) (i : Fin 2) (J : S2x2048x8.Idx) (h : ∀ a : Fin 3, (J a).val = 0 + ((ix3 b s i : S2x2048x2.Idx) a).val) :
    J = ix3 b s (col i) := by
  funext a
  have := h a
  rw [Nat.zero_add] at this
  fin_cases a <;> exact Fin.ext this

theorem values_at (l : FVec Ideal S2x2048x8 .f32) (b : Fin 2) (s : Fin 2048) (f : Fin 8 → ℝ) (hf : ∀ e, l (ix3 b s e) = ((f e : ℝ) : EReal)) (i : Fin 2) :
    values l (ix3 b s i) = ((f (top f i) : ℝ) : EReal) :=
  (congrArg l (sort_row l b s f hf i _ (slice_row b s i _ fun _ => rfl))).trans (hf _)

theorem indices_at (l : FVec Ideal S2x2048x8 .f32) (b : Fin 2) (s : Fin 2048) (f : Fin 8 → ℝ) (hf : ∀ e, l (ix3 b s e) = ((f e : ℝ) : EReal)) (i : Fin 2) :
    indices l (ix3 b s i) = BitVec.ofNat 32 (top f i).val :=
  congrArg (fun J : S2x2048x8.Idx => iotaInDim S2x2048x8 32 (2 : Fin 3) J) (sort_row l b s f hf i _ (slice_row b s i _ fun _ => rfl))

/-- The softmax's numerators. -/
theorem numer_at (v : FVec Ideal S2x2048x2 .f32) (b : Fin 2) (s : Fin 2048) (a c : ℝ) (h : c ≤ a)
    (h0 : v (ix3 b s 0) = (a : EReal)) (h1 : v (ix3 b s 1) = (c : EReal)) :
    numer v (ix3 b s 0) = ((Real.exp (a - a) : ℝ) : EReal) ∧ numer v (ix3 b s 1) = ((Real.exp (c - a) : ℝ) : EReal) := by
  have hm : maximumf (broadcastInDim S2x2048 ![] bcast_S_S2x2048 (num0 (F := Ideal) 0xFF800000#32))
      (Host.reduce FloatOps.maximumf v (num0 0xFF800000#32) reducesTo_S2x2048x2_S2x2048_d2 h_S_) (ix2 b s) = (a : EReal) := by
    unfold num0
    pointwise
    rw [w_neg_inf, Fin.univ_succ]
    simp only [Finset.fold_cons, Fin.isValue]
    simp only [Fin.succ_zero_eq_one, Finset.univ_unique, Fin.default_eq_zero, Finset.map_singleton, Function.Embedding.coeFn_mk, Finset.fold_singleton]
    have hh : ((c : ℝ) : EReal) ≤ (a : EReal) := EReal.coe_le_coe_iff.mpr h
    simp [h0, h1, hh]
  have hn : ∀ i, numer v (ix3 b s i) = Ideal.exp (v (ix3 b s i) - (a : EReal)) := by
    intro i
    rw [← hm]
    unfold numer
    generalize maximumf (broadcastInDim S2x2048 ![] bcast_S_S2x2048 (num0 (F := Ideal) 0xFF800000#32)) _ = M
    pointwise
  rw [hn, hn, h0, h1]
  exact ⟨rfl, rfl⟩

theorem soft_at (n : FVec Ideal S2x2048x2 .f32) (b : Fin 2) (s : Fin 2048) (i : Fin 2) :
    soft n (ix3 b s i) = Ideal.div (n (ix3 b s i)) (n (ix3 b s 0) + n (ix3 b s 1)) := by
  unfold soft num0
  pointwise
  rw [Fin.sum_univ_two]

theorem onehot_at (x : IVec S2x2048x2 32) (b : Fin 2) (s : Fin 2048) (i : Fin 2) (e k : Fin 8) (h : x (ix3 b s i) = BitVec.ofNat 32 k.val) :
    onehot (F := Ideal) x (ix4 b s i e) = ((if k = e then 1 else 0 : ℝ) : EReal) := by
  unfold onehot
  pointwise
  rw [h]
  show (((IntOp.cmpi .eq (BitVec.ofNat 32 k.val) (BitVec.ofNat 32 e.val)).toNat : ℝ) : EReal) = _
  have hc : IntOp.cmpi .eq (BitVec.ofNat 32 k.val) (BitVec.ofNat 32 e.val) = BitVec.ofBool (decide (k = e)) := by
    clear h
    revert k e
    decide
  rw [hc]
  by_cases hk : k = e <;> simp [hk]

theorem mix_at (w : FVec Ideal S2x2048x2 .f32) (h : FVec Ideal S2x2048x2x8 .f32) (b : Fin 2) (s : Fin 2048) (e : Fin 8) :
    mix w h (ix3 b s e) = w (ix3 b s 0) * h (ix4 b s 0 e) + w (ix3 b s 1) * h (ix4 b s 1 e) := by
  unfold mix num0
  pointwise
  rw [Fin.sum_univ_two]

/-- The gates. -/
theorem gates_at (l : FVec Ideal S2x2048x8 .f32) (b : Fin 2) (s : Fin 2048) (f : Fin 8 → ℝ) (hf : ∀ e, l (ix3 b s e) = ((f e : ℝ) : EReal)) (e : Fin 8) :
    gates l (ix3 b s e) = ((gate f e : ℝ) : EReal) := by
  have hle : f (top f 1) ≤ f (top f 0) := by
    rcases (best_top f).first (top f 1) (by omega) (best_top f).hne.symm with h | h
    · exact h.le
    · exact h.1.ge
  obtain ⟨n0, n1⟩ := numer_at (values l) b s _ _ hle (values_at l b s f hf 0) (values_at l b s f hf 1)
  have hne : Real.exp (f (top f 0) - f (top f 0)) + Real.exp (f (top f 1) - f (top f 0)) ≠ 0 := by positivity
  unfold gates
  rw [mix_at, soft_at, soft_at, onehot_at _ b s 0 e _ (indices_at l b s f hf 0), onehot_at _ b s 1 e _ (indices_at l b s f hf 1), n0, n1,
    ← EReal.coe_add, Ideal.div_coe hne, Ideal.div_coe hne, ← EReal.coe_mul, ← EReal.coe_mul, ← EReal.coe_mul, ← EReal.coe_mul, ← EReal.coe_add,
    mul_one_div, mul_one_div, soft_first _ _ hle, soft_second _ _ hle]
  rfl
end Cert.ReferenceIdeal.Hand
end
end
-- ==== Proof.RLayerAt.lean ====
module
public import proofs.«01_k».proof.Proof.RGates
@[expose] public section
noncomputable section
/-! The reference's layer at an index. -/
namespace Cert.ReferenceIdeal.Hand
open Idealize.ShloMosaic Idealize.ShloMosaic.TcCoe Idealize.SL.Sem
open Cert.ReferenceIdeal Cert.ReferenceIdeal.Gen Cert.Kan

theorem frac_at (g : Fin 7) : frac (F := Ideal) (ix1 g) = (((g.val : ℝ) / 7 : ℝ) : EReal) := by
  unfold frac num0
  pointwise
  rw [w_seven, Ideal.div_coe (by norm_num)]
  have hg : (BitVec.ofNat 32 g.val).toInt = g.val := by revert g; decide
  show ((((BitVec.ofNat 32 g.val).toInt : ℝ)) : EReal) * _ = _
  rw [hg, ← EReal.coe_mul, mul_one_div, Int.cast_natCast]

theorem width_at : width (F := Ideal) ix0 = ((4 / 7 : ℝ) : EReal) := by
  unfold width num0
  pointwise
  rw [w_four, w_seven, Ideal.div_coe (by norm_num), ← EReal.coe_mul, mul_one_div]

theorem centers_at (g : Fin 8) : centers (F := Ideal) (ix1 g) = ((center g : ℝ) : EReal) := by
  unfold centers
  pointwise
  split
  · rename_i hg
    rw [frac_at, w_two, w_neg_two, ← EReal.coe_one, ← EReal.coe_sub, ← EReal.coe_mul, ← EReal.coe_mul, ← EReal.coe_add]
    congr 1
    unfold center
    ring
  · rename_i hg
    rw [w_two]
    congr 1
    have : g.val = 7 := by omega
    unfold center
    rw [this]
    norm_num

/-- The basis function at a number. -/
theorem bump_num (r : ℝ) (g : Fin 8) {x C W T : EReal} (hx : x = (r : EReal)) (hC : C = ((center g : ℝ) : EReal)) (hW : W = ((4 / 7 : ℝ) : EReal))
    (hT : T = ((2 : ℝ) : EReal)) : Ideal.exp (Ideal.div (-((x - C) * (x - C))) (T * W * W)) = ((bump r g : ℝ) : EReal) := by
  rw [hx, hC, hW, hT, ← EReal.coe_sub, ← EReal.coe_mul, ← EReal.coe_neg, ← EReal.coe_mul, ← EReal.coe_mul, Ideal.div_coe (by norm_num), ← EReal.coe_mul,
    Ideal.exp_coe]
  congr 2
  ring

/-- The silu at a number. -/
theorem act_num (r : ℝ) {x : EReal} (hx : x = (r : EReal)) : x * Ideal.div 1 (1 + Ideal.exp (-x)) = ((act r : ℝ) : EReal) := by
  show x * Ideal.logistic x = _
  rw [hx, Ideal.logistic_coe, ← EReal.coe_mul]
  rfl

/-! ## The encoder -/

theorem encLogits_at (x : FVec Ideal S2x2048x128 .f32) (rw : FVec Ideal S128x8 .f32) (rb : FVec Ideal S8 .f32) (b : Fin 2) (s : Fin 2048) (e : Fin 8) :
    encLogits x rw rb (ix3 b s e) = (∑ i, x (ix3 b s i) * rw (ix2 i e)) + rb (ix1 e) := by
  unfold encLogits
  pointwise

theorem encSilu_at (x : FVec Ideal S2x2048x128 .f32) (b : Fin 2) (s : Fin 2048) (i : Fin 128) (r : ℝ) (h : x (ix3 b s i) = (r : EReal)) :
    encSilu x (ix3 b s i) = ((act r : ℝ) : EReal) := by
  unfold encSilu num0
  pointwise
  exact act_num r h

theorem encBump_at (x : FVec Ideal S2x2048x128 .f32) (b : Fin 2) (s : Fin 2048) (i : Fin 128) (g : Fin 8) (r : ℝ) (h : x (ix3 b s i) = (r : EReal)) :
    encBump (encDist x) (ix4 b s i g) = ((bump r g : ℝ) : EReal) := by
  have hC := centers_at g
  have hW := width_at
  unfold encBump encDist
  generalize centers (F := Ideal) = C at hC ⊢
  generalize width (F := Ideal) = W at hW ⊢
  unfold num0
  pointwise
  exact bump_num r g h hC hW w_two

theorem encExperts_at (y : FVec Ideal S2x2048x128 .f32) (z : FVec Ideal S2x2048x128x8 .f32) (bw : FVec Ideal S8x64x128 .f32) (sw : FVec Ideal S8x64x128x8 .f32)
    (b : Fin 2) (s : Fin 2048) (e : Fin 8) (j : Fin 64) :
    encExperts y z bw sw (ix4 b s e j) = (∑ i, y (ix3 b s i) * bw (ix3 e j i)) + ∑ i, ∑ g, z (ix4 b s i g) * sw (ix4 e j i g) := by
  unfold encExperts
  pointwise
  rw [Finset.sum_comm]

theorem encMix_at (g : FVec Ideal S2x2048x8 .f32) (y : FVec Ideal S2x2048x8x64 .f32) (b : Fin 2) (s : Fin 2048) (j : Fin 64) :
    encMix g y (ix3 b s j) = ∑ e, g (ix3 b s e) * y (ix4 b s e j) := by
  unfold encMix num0
  pointwise

/-- The layer at an index. -/
theorem enc_at (x : FVec Ideal S2x2048x128 .f32) (rw : FVec Ideal S128x8 .f32) (rb : FVec Ideal S8 .f32) (bw : FVec Ideal S8x64x128 .f32) (sw : FVec Ideal S8x64x128x8 .f32)
    (b : Fin 2) (s : Fin 2048) (X : Fin 128 → ℝ) (l : Fin 8 → ℝ) (hx : ∀ i, x (ix3 b s i) = ((X i : ℝ) : EReal))
    (hl : ∀ e, (∑ i, ((X i : ℝ) : EReal) * rw (ix2 i e)) + rb (ix1 e) = ((l e : ℝ) : EReal)) (j : Fin 64) :
    enc x rw rb bw sw (ix3 b s j) = layer X l (fun e j i => bw (ix3 e j i)) (fun e j i g => sw (ix4 e j i g)) j := by
  have hlog : ∀ e, encLogits x rw rb (ix3 b s e) = ((l e : ℝ) : EReal) := fun e => by
    rw [encLogits_at, ← hl]
    simp only [hx]
  unfold enc layer expert
  rw [encMix_at]
  refine Finset.sum_congr rfl fun e _ => ?_
  rw [gates_at _ b s l hlog, encExperts_at]
  congr 2
  · exact Finset.sum_congr rfl fun i _ => by rw [encSilu_at x b s i _ (hx i)]
  · exact Finset.sum_congr rfl fun i _ => Finset.sum_congr rfl fun g _ => by rw [encBump_at x b s i g _ (hx i)]

/-! ## The decoder -/

theorem decLogits_at (x : FVec Ideal S2x2048x64 .f32) (rw : FVec Ideal S64x8 .f32) (rb : FVec Ideal S8 .f32) (b : Fin 2) (s : Fin 2048) (e : Fin 8) :
    decLogits x rw rb (ix3 b s e) = (∑ i, x (ix3 b s i) * rw (ix2 i e)) + rb (ix1 e) := by
  unfold decLogits
  pointwise

theorem decSilu_at (x : FVec Ideal S2x2048x64 .f32) (b : Fin 2) (s : Fin 2048) (i : Fin 64) (r : ℝ) (h : x (ix3 b s i) = (r : EReal)) :
    decSilu x (ix3 b s i) = ((act r : ℝ) : EReal) := by
  unfold decSilu num0
  pointwise
  exact act_num r h

theorem decBump_at (x : FVec Ideal S2x2048x64 .f32) (b : Fin 2) (s : Fin 2048) (i : Fin 64) (g : Fin 8) (r : ℝ) (h : x (ix3 b s i) = (r : EReal)) :
    decBump (decDist x) (ix4 b s i g) = ((bump r g : ℝ) : EReal) := by
  have hC := centers_at g
  have hW := width_at
  unfold decBump decDist
  generalize centers (F := Ideal) = C at hC ⊢
  generalize width (F := Ideal) = W at hW ⊢
  unfold num0
  pointwise
  exact bump_num r g h hC hW w_two

theorem decExperts_at (y : FVec Ideal S2x2048x64 .f32) (z : FVec Ideal S2x2048x64x8 .f32) (bw : FVec Ideal S8x128x64 .f32) (sw : FVec Ideal S8x128x64x8 .f32)
    (b : Fin 2) (s : Fin 2048) (e : Fin 8) (j : Fin 128) :
    decExperts y z bw sw (ix4 b s e j) = (∑ i, y (ix3 b s i) * bw (ix3 e j i)) + ∑ i, ∑ g, z (ix4 b s i g) * sw (ix4 e j i g) := by
  unfold decExperts
  pointwise
  rw [Finset.sum_comm]

theorem decMix_at (g : FVec Ideal S2x2048x8 .f32) (y : FVec Ideal S2x2048x8x128 .f32) (b : Fin 2) (s : Fin 2048) (j : Fin 128) :
    decMix g y (ix3 b s j) = ∑ e, g (ix3 b s e) * y (ix4 b s e j) := by
  unfold decMix num0
  pointwise

/-- The layer at an index. -/
theorem dec_at (x : FVec Ideal S2x2048x64 .f32) (rw : FVec Ideal S64x8 .f32) (rb : FVec Ideal S8 .f32) (bw : FVec Ideal S8x128x64 .f32) (sw : FVec Ideal S8x128x64x8 .f32)
    (b : Fin 2) (s : Fin 2048) (X : Fin 64 → ℝ) (l : Fin 8 → ℝ) (hx : ∀ i, x (ix3 b s i) = ((X i : ℝ) : EReal))
    (hl : ∀ e, (∑ i, ((X i : ℝ) : EReal) * rw (ix2 i e)) + rb (ix1 e) = ((l e : ℝ) : EReal)) (j : Fin 128) :
    dec x rw rb bw sw (ix3 b s j) = layer X l (fun e j i => bw (ix3 e j i)) (fun e j i g => sw (ix4 e j i g)) j := by
  have hlog : ∀ e, decLogits x rw rb (ix3 b s e) = ((l e : ℝ) : EReal) := fun e => by
    rw [decLogits_at, ← hl]
    simp only [hx]
  unfold dec layer expert
  rw [decMix_at]
  refine Finset.sum_congr rfl fun e _ => ?_
  rw [gates_at _ b s l hlog, decExperts_at]
  congr 2
  · exact Finset.sum_congr rfl fun i _ => by rw [decSilu_at x b s i _ (hx i)]
  · exact Finset.sum_congr rfl fun i _ => Finset.sum_congr rfl fun g _ => by rw [decBump_at x b s i g _ (hx i)]

theorem spreadLatent_at (l : FVec Ideal S2x64 .f32) (b : Fin 2) (s : Fin 2048) (o : Fin 64) : spreadLatent l (ix3 b s o) = l (ix2 b o) := by
  unfold spreadLatent
  pointwise

/-- The latent at an index. -/
theorem latent_at (a0 : FVec Ideal S2x128x2048 .f32) (a1 : FVec Ideal S128x8 .f32) (a2 : FVec Ideal S8 .f32) (a3 : FVec Ideal S8x64x128 .f32) (a4 : FVec Ideal S8x64x128x8 .f32)
    (b : Fin 2) (X : Fin 2048 → Fin 128 → ℝ) (l : Fin 2048 → Fin 8 → ℝ) (hx : ∀ s i, a0 (ix3 b i s) = ((X s i : ℝ) : EReal))
    (hl : ∀ s e, (∑ i, ((X s i : ℝ) : EReal) * a1 (ix2 i e)) + a2 (ix1 e) = ((l s e : ℝ) : EReal)) (o : Fin 64) :
    latent a0 a1 a2 a3 a4 (ix2 b o)
      = (∑ s, layer (X s) (l s) (fun e j i => a3 (ix3 e j i)) (fun e j i g => a4 (ix4 e j i g)) o) * ((1 / 2048 : ℝ) : EReal) := by
  have ht : ∀ s i, transpose S2x2048x128 [0, 2, 1] a0 transposes_S2x128x2048_S2x2048x128_0_2_1 (ix3 b s i) = ((X s i : ℝ) : EReal) := fun s i => by
    rw [← hx]
    pointwise
  have he := fun s => enc_at (transpose S2x2048x128 [0, 2, 1] a0 transposes_S2x128x2048_S2x2048x128_0_2_1) a1 a2 a3 a4 b s (X s) (l s) (ht s) (hl s) o
  unfold latent
  generalize enc (transpose S2x2048x128 [0, 2, 1] a0 transposes_S2x128x2048_S2x2048x128_0_2_1) a1 a2 a3 a4 = E at he ⊢
  unfold num0
  pointwise
  rw [w_2048, Ideal.div_coe (by norm_num)]
  simp only [he]

/-- The whole program at an index. -/
theorem whole_at (a0 : FVec Ideal S2x128x2048 .f32) (a1 : FVec Ideal S128x8 .f32) (a2 : FVec Ideal S8 .f32) (a3 : FVec Ideal S8x64x128 .f32) (a4 : FVec Ideal S8x64x128x8 .f32)
    (a5 : FVec Ideal S64x8 .f32) (a6 : FVec Ideal S8 .f32) (a7 : FVec Ideal S8x128x64 .f32) (a8 : FVec Ideal S8x128x64x8 .f32) (b : Fin 2) (L : Fin 64 → ℝ) (l : Fin 8 → ℝ)
    (hL : ∀ o, latent a0 a1 a2 a3 a4 (ix2 b o) = ((L o : ℝ) : EReal))
    (hl : ∀ e, (∑ o, ((L o : ℝ) : EReal) * a5 (ix2 o e)) + a6 (ix1 e) = ((l e : ℝ) : EReal)) (j : Fin 128) (s : Fin 2048) :
    whole a0 a1 a2 a3 a4 a5 a6 a7 a8 (ix3 b j s) = layer L l (fun e j i => a7 (ix3 e j i)) (fun e j i g => a8 (ix4 e j i g)) j := by
  unfold whole
  generalize latent a0 a1 a2 a3 a4 = M at hL ⊢
  rw [← dec_at (spreadLatent M) a5 a6 a7 a8 b s L l (fun o => (spreadLatent_at M b s o).trans (hL o)) hl j]
  generalize dec (spreadLatent M) a5 a6 a7 a8 = D
  pointwise
end Cert.ReferenceIdeal.Hand
end
end
-- ==== Proof.Pre.lean ====
module
public import proofs.«01_k».proof.Proof.RLayer
public import proofs.«01_k».proof.Proof.Spec
public import proofs.«01_k».proof.Proof.Consts
public import proofs.«01_k».proof.Pre_in_range
public import Idealize.ShloMosaic.Lib.Pointwise
public import Idealize.ShloMosaic.Lib.ReduceAll
@[expose] public section
noncomputable section
/-! What the precondition gives. -/
namespace Cert.Pre_in_range.Hand
open Idealize.ShloMosaic
open Cert.Pre_in_range Cert.Kan
open Facts
variable [Facts] {F : FTy → Type} [FloatOps F]

/-- Every element of `x` is smaller than infinity. -/
def finite {s : Shape} {a : List (Fin s.rank)} (x : FVec F s .f32) (hb : S_.BroadcastsInDim s ![]) (hr : s.ReducesTo a S_) : IVec S_ 1 :=
  Host.reduce IntOp.andi (cmpf .olt (Host.absf x) (broadcastInDim s ![] hb (constant S_ .f32 0x7F800000#32))) (constantI S_ 1 1#1) hr h_S_
/-- Every element of `x` is within the bound. -/
def within {s : Shape} {a : List (Fin s.rank)} (x : FVec F s .f32) (hb : S_.BroadcastsInDim s ![]) (hr : s.ReducesTo a S_) : IVec S_ 1 :=
  Host.reduce IntOp.andi (cmpf .ole (Host.absf x) (broadcastInDim s ![] hb (constant S_ .f32 0x40C66666#32))) (constantI S_ 1 1#1) hr h_S_

/-- The predicate, over the reference's latent. -/
theorem fn_eq (a0 : FVec F S2x128x2048 .f32) (a1 : FVec F S128x8 .f32) (a2 : FVec F S8 .f32) (a3 : FVec F S8x64x128 .f32) (a4 : FVec F S8x64x128x8 .f32)
    (a5 : FVec F S64x8 .f32) (a6 : FVec F S8 .f32) (a7 : FVec F S8x128x64 .f32) (a8 : FVec F S8x128x64x8 .f32) :
    fn a0 a1 a2 a3 a4 a5 a6 a7 a8 = andi (andi (andi (andi (andi (finite a1 bcast_S_S128x8 reducesTo_S128x8_S_d0_1) (finite a2 bcast_S_S8 reducesTo_S8_S_d0))
      (finite a5 bcast_S_S64x8 reducesTo_S64x8_S_d0_1)) (finite a6 bcast_S_S8 reducesTo_S8_S_d0)) (within a0 bcast_S_S2x128x2048 reducesTo_S2x128x2048_S_d0_1_2))
      (within (Cert.ReferenceIdeal.Hand.latent a0 a1 a2 a3 a4) bcast_S_S2x64 reducesTo_S2x64_S_d0_1) := by
  sl_kernel_rfl

instance : Subsingleton S_.Idx := ⟨fun a b => funext fun k => k.elim0⟩

theorem abs_lt_top {x : EReal} (h : max x (-x) < ⊤) : ∃ r : ℝ, x = (r : EReal) := by
  induction x with
  | bot => simp at h
  | top => simp at h
  | coe r => exact ⟨r, rfl⟩

theorem abs_le_bound {x : EReal} (h : max x (-x) ≤ ((bound : ℝ) : EReal)) : ∃ r : ℝ, x = (r : EReal) ∧ |r| ≤ bound := by
  obtain ⟨r, rfl⟩ := abs_lt_top (h.trans_lt (EReal.coe_lt_top _))
  refine ⟨r, rfl, abs_le'.mpr ⟨?_, ?_⟩⟩
  · exact EReal.coe_le_coe_iff.mp ((le_max_left _ _).trans h)
  · exact EReal.coe_le_coe_iff.mp ((EReal.coe_neg r).le.trans ((le_max_right _ _).trans h))

theorem ofBool_one {p : Prop} [Decidable p] (h : BitVec.ofBool (decide p) = 1#1) : p := by
  by_contra hp
  simp [hp] at h

theorem of_finite {s : Shape} {a : List (Fin s.rank)} (x : FVec Ideal s .f32) (hb : S_.BroadcastsInDim s ![]) (hr : s.ReducesTo a S_)
    (h : finite x hb hr ix0 = 1#1) (i : s.Idx) : ∃ r : ℝ, x i = (r : EReal) := by
  have h1 : BitVec.ofBool (decide (max (x i) (-(x i)) < Ideal.ofBits .f32 0x7F800000#32)) = 1#1 := Host.reduce_andi_all _ _ _ _ _ h i
  rw [w_inf] at h1
  exact abs_lt_top (ofBool_one h1)

theorem of_within {s : Shape} {a : List (Fin s.rank)} (x : FVec Ideal s .f32) (hb : S_.BroadcastsInDim s ![]) (hr : s.ReducesTo a S_)
    (h : within x hb hr ix0 = 1#1) (i : s.Idx) : ∃ r : ℝ, x i = (r : EReal) ∧ |r| ≤ bound := by
  have h1 : BitVec.ofBool (decide (max (x i) (-(x i)) ≤ Ideal.ofBits .f32 0x40C66666#32)) = 1#1 := Host.reduce_andi_all _ _ _ _ _ h i
  rw [w_hi] at h1
  exact abs_le_bound (ofBool_one h1)

/-- What the precondition gives. -/
theorem of_pre (a0 : FVec Ideal S2x128x2048 .f32) (a1 : FVec Ideal S128x8 .f32) (a2 : FVec Ideal S8 .f32) (a3 : FVec Ideal S8x64x128 .f32) (a4 : FVec Ideal S8x64x128x8 .f32)
    (a5 : FVec Ideal S64x8 .f32) (a6 : FVec Ideal S8 .f32) (a7 : FVec Ideal S8x128x64 .f32) (a8 : FVec Ideal S8x128x64x8 .f32)
    (h : fn a0 a1 a2 a3 a4 a5 a6 a7 a8 = fun _ => 1#1) :
    (∀ i, ∃ r : ℝ, a1 i = (r : EReal)) ∧ (∀ i, ∃ r : ℝ, a2 i = (r : EReal)) ∧ (∀ i, ∃ r : ℝ, a5 i = (r : EReal)) ∧ (∀ i, ∃ r : ℝ, a6 i = (r : EReal))
    ∧ (∀ i, ∃ r : ℝ, a0 i = (r : EReal) ∧ |r| ≤ bound)
    ∧ ∀ i, ∃ r : ℝ, Cert.ReferenceIdeal.Hand.latent a0 a1 a2 a3 a4 i = (r : EReal) ∧ |r| ≤ bound := by
  rw [fn_eq] at h
  have h' := congrFun h ix0
  obtain ⟨h', hl⟩ := IntOp.andi_eq_one.1 h'
  obtain ⟨h', h0⟩ := IntOp.andi_eq_one.1 h'
  obtain ⟨h', h6⟩ := IntOp.andi_eq_one.1 h'
  obtain ⟨h', h5⟩ := IntOp.andi_eq_one.1 h'
  obtain ⟨h1, h2⟩ := IntOp.andi_eq_one.1 h'
  exact ⟨of_finite _ _ _ h1, of_finite _ _ _ h2, of_finite _ _ _ h5, of_finite _ _ _ h6, of_within _ _ _ h0, of_within _ _ _ hl⟩
end Cert.Pre_in_range.Hand
end
end
-- ==== Proof.KLayer.lean ====
module
public import proofs.«01_k».proof.Proof.Points
public import proofs.«01_k».proof.Proof.Spec
public import Idealize.ShloMosaic.Lib.Pointwise.IndexVar
@[expose] public section
noncomputable section
/-! The kernel's layer at an index. -/
namespace Cert.KernelIdeal.Hand
open Idealize.ShloMosaic Idealize.ShloMosaic.TcCoe Idealize.SL.Sem
open Cert.KernelIdeal Cert.KernelIdeal.Gen Cert.Kan

/-- A truth as a number. -/
theorem truth (p : Prop) [Decidable p] :
    (((BitVec.setWidth 32 (BitVec.ofBool (decide p))).toInt : ℝ) : EReal) = ((if p then 1 else 0 : ℝ) : EReal) := by
  by_cases h : p <;> simp [h]

/-- The scan at a column: positions `a` and `b` are the best of those up to `k`. -/
structure At {n : Nat} (f : Fin 8 → ℝ) (j : (Mat 1 n).Idx) (k : Nat) (s : Top Ideal n) (a b : Fin 8) : Prop where
  best : Best f k a b
  m1 : s.m1 j = ((f a : ℝ) : EReal)
  i1 : s.i1 j = ((a.val : ℝ) : EReal)
  m2 : s.m2 j = ((f b : ℝ) : EReal)
  i2 : s.i2 j = ((b.val : ℝ) : EReal)

theorem gt_eq {n : Nat} (v w : FVec Ideal (Mat 1 n) .f32) (j : (Mat 1 n).Idx) {a b : ℝ} (hv : v j = (a : EReal)) (hw : w j = (b : EReal)) :
    (cmpf .ogt v w) j = BitVec.ofBool (decide (b < a)) := by
  show BitVec.ofBool (decide (w j < v j)) = _
  rw [hv, hw]
  simp only [EReal.coe_lt_coe_iff]

theorem step_at {n : Nat} {f : Fin 8 → ℝ} {j : (Mat 1 n).Idx} {k : Nat} {s : Top Ideal n} {a b : Fin 8} (h : At f j k s a b)
    (c : Fin 8) (hc : c.val = k + 1) (w : BitVec 32) (hw : Ideal.ofBits .f32 w = ((c.val : ℝ) : EReal))
    (v : FVec Ideal (Mat 1 n) .f32) (hv : v j = ((f c : ℝ) : EReal)) :
    At f j (k + 1) (Top.step w v s) (if f a < f c then c else a) (if f a < f c then a else if f b < f c then c else b) := by
  have g1 := gt_eq v s.m1 j hv h.m1
  have g2 := gt_eq v s.m2 j hv h.m2
  refine ⟨h.best.step c hc, ?_, ?_, ?_, ?_⟩
  · show (if (cmpf .ogt v s.m1) j = 1#1 then v j else s.m1 j) = _
    rw [g1, hv, h.m1]
    by_cases e : f a < f c <;> simp [e]
  · show (if (cmpf .ogt v s.m1) j = 1#1 then Ideal.ofBits .f32 w else s.i1 j) = _
    rw [g1, hw, h.i1]
    by_cases e : f a < f c <;> simp [e]
  · show (if (cmpf .ogt v s.m1) j = 1#1 then s.m1 j else
      if ((cmpf .ogt v s.m1) j ^^^ 1#1) &&& (cmpf .ogt v s.m2) j = 1#1 then v j else s.m2 j) = _
    rw [g1, g2, hv, h.m1, h.m2]
    by_cases e : f a < f c <;> by_cases e' : f b < f c <;> simp [e, e']
  · show (if (cmpf .ogt v s.m1) j = 1#1 then s.i1 j else
      if ((cmpf .ogt v s.m1) j ^^^ 1#1) &&& (cmpf .ogt v s.m2) j = 1#1 then Ideal.ofBits .f32 w else s.i2 j) = _
    rw [g1, g2, hw, h.i1, h.i2]
    by_cases e : f a < f c <;> by_cases e' : f b < f c <;> simp [e, e']

theorem start_at {n : Nat} (f : Fin 8 → ℝ) (j : (Mat 1 n).Idx) (u v : FVec Ideal (Mat 1 n) .f32) (hu : u j = ((f 0 : ℝ) : EReal))
    (hv : v j = ((f 1 : ℝ) : EReal)) :
    At f j 1 (Top.step 0x3F800000#32 v (Top.start u)) (if f 0 < f 1 then 1 else 0) (if f 0 < f 1 then 0 else 1) := by
  have g1 := gt_eq v u j hv hu
  have g2 : (cmpf .ogt v (lit 0xFF800000#32)) j = 1#1 := by
    show BitVec.ofBool (decide (Ideal.ofBits .f32 0xFF800000#32 < v j)) = _
    rw [hv, w_neg_inf]
    simp
  refine ⟨best_start f, ?_, ?_, ?_, ?_⟩
  · show (if (cmpf .ogt v u) j = 1#1 then v j else u j) = _
    rw [g1, hv, hu]
    by_cases e : f 0 < f 1 <;> simp [e]
  · show (if (cmpf .ogt v u) j = 1#1 then Ideal.ofBits .f32 0x3F800000#32 else Ideal.ofBits .f32 0x00000000#32) = _
    rw [g1, w_one, w_zero]
    by_cases e : f 0 < f 1 <;> simp [e]
  · show (if (cmpf .ogt v u) j = 1#1 then u j else
      if ((cmpf .ogt v u) j ^^^ 1#1) &&& (cmpf .ogt v (lit 0xFF800000#32)) j = 1#1 then v j else Ideal.ofBits .f32 0xFF800000#32) = _
    rw [g1, g2, hv, hu]
    by_cases e : f 0 < f 1 <;> simp [e]
  · show (if (cmpf .ogt v u) j = 1#1 then Ideal.ofBits .f32 0x00000000#32 else
      if ((cmpf .ogt v u) j ^^^ 1#1) &&& (cmpf .ogt v (lit 0xFF800000#32)) j = 1#1 then Ideal.ofBits .f32 0x3F800000#32 else Ideal.ofBits .f32 0x00000000#32) = _
    rw [g1, g2, w_one, w_zero]
    by_cases e : f 0 < f 1 <;> simp [e]

/-- The scan finds the two largest. -/
theorem scan_at {n : Nat} (f : Fin 8 → ℝ) (j : (Mat 1 n).Idx) (r : Fin 8 → FVec Ideal (Mat 1 n) .f32) (hr : ∀ e, r e j = ((f e : ℝ) : EReal)) :
    At f j 7 (Top.scan r) (top f 0) (top f 1) := by
  have h1 := start_at f j (r 0) (r 1) (hr 0) (hr 1)
  have h2 := step_at h1 2 rfl 0x40000000#32 (w_two.trans (by norm_num)) (r 2) (hr 2)
  have h3 := step_at h2 3 rfl 0x40400000#32 (w_three.trans (by norm_num)) (r 3) (hr 3)
  have h4 := step_at h3 4 rfl 0x40800000#32 (w_four.trans (by norm_num)) (r 4) (hr 4)
  have h5 := step_at h4 5 rfl 0x40A00000#32 (w_five.trans (by norm_num)) (r 5) (hr 5)
  have h6 := step_at h5 6 rfl 0x40C00000#32 (w_six.trans (by norm_num)) (r 6) (hr 6)
  have h7 := step_at h6 7 rfl 0x40E00000#32 (w_seven.trans (by norm_num)) (r 7) (hr 7)
  obtain ⟨t0, t1⟩ := h7.best.top_eq
  rw [t0, t1]
  exact h7

theorem num_eq (e : Fin 8) : Ideal.ofBits .f32 (num e) = ((e.val : ℝ) : EReal) := by
  fin_cases e
  · exact w_zero.trans (by norm_num)
  · exact w_one.trans (by norm_num)
  · exact w_two.trans (by norm_num)
  · exact w_three.trans (by norm_num)
  · exact w_four.trans (by norm_num)
  · exact w_five.trans (by norm_num)
  · exact w_six.trans (by norm_num)
  · exact w_seven.trans (by norm_num)

/-- The gate at a column. -/
theorem gate_at {n : Nat} (f : Fin 8 → ℝ) (j : (Mat 1 n).Idx) (r : Fin 8 → FVec Ideal (Mat 1 n) .f32) (hr : ∀ e, r e j = ((f e : ℝ) : EReal)) (e : Fin 8) :
    (Top.scan r).gate (num e) j = ((gate f e : ℝ) : EReal) := by
  have h := scan_at f j r hr
  show Ideal.logistic ((Top.scan r).m1 j - (Top.scan r).m2 j) *
      (((BitVec.setWidth 32 (BitVec.ofBool (decide ((Top.scan r).i1 j = Ideal.ofBits .f32 (num e))))).toInt : ℝ) : EReal) +
    (Ideal.ofBits .f32 0x3F800000#32 - Ideal.logistic ((Top.scan r).m1 j - (Top.scan r).m2 j)) *
      (((BitVec.setWidth 32 (BitVec.ofBool (decide ((Top.scan r).i2 j = Ideal.ofBits .f32 (num e))))).toInt : ℝ) : EReal) = _
  rw [truth, truth, h.m1, h.m2, h.i1, h.i2, num_eq, w_one, ← EReal.coe_sub, Ideal.logistic_coe]
  have c (a : Fin 8) : (((a.val : ℝ) : EReal) = ((e.val : ℝ) : EReal)) ↔ a = e := by
    rw [EReal.coe_eq_coe_iff, Nat.cast_inj, Fin.ext_iff]
  simp only [c]
  unfold gate share
  rw [EReal.coe_add, EReal.coe_mul, EReal.coe_mul, EReal.coe_sub]

/-! ## The basis functions -/

section
variable {k n : Nat} (x : FVec Ideal (Mat k n) .f32) (j : (Mat k n).Idx) (r : ℝ) (hx : x j = (r : EReal))
include hx

theorem base_at : base x j = ((act r : ℝ) : EReal) := by
  show x j * Ideal.logistic (x j) = _
  rw [hx, Ideal.logistic_coe, ← EReal.coe_mul]
  rfl

variable (hr : |r| ≤ bound)
include hr

theorem clip_at : clip x j = (r : EReal) := by
  show min (Ideal.ofBits .f32 0x40C66666#32) (max (Ideal.ofBits .f32 0xC0C66666#32) (x j)) = _
  rw [hx, w_hi, w_lo, clip_id hr]

theorem power_at (g : Nat) : power x g j = ((Cert.Kan.pow r g : ℝ) : EReal) := by
  have hc := clip_at x j r hx hr
  induction g with
  | zero =>
    show Ideal.exp ((Ideal.ofBits .f32 0x00000000#32 - (clip x j * clip x j + Ideal.ofBits .f32 0x40800000#32 * clip x j)) * Ideal.ofBits .f32 0x3FC40000#32) = _
    rw [hc, w_zero, w_four, w_inv2h2, ← EReal.coe_mul, ← EReal.coe_mul, ← EReal.coe_add, ← EReal.coe_sub, ← EReal.coe_mul, Ideal.exp_coe]
    unfold Cert.Kan.pow
    rw [pow_zero, mul_one]
  | succ g ih =>
    show power x g j * Ideal.exp (clip x j * Ideal.ofBits .f32 0x3FE00000#32) = _
    rw [ih, hc, w_invh, ← EReal.coe_mul, Ideal.exp_coe, ← EReal.coe_mul]
    unfold Cert.Kan.pow
    rw [pow_succ, mul_assoc]

theorem basis_at (g : Fin 8) : basis x g.val (expo g) j = ((bump r g : ℝ) : EReal) := by
  have key (q : ℝ) (hq : q = -(7 - 2 * (g.val : ℝ)) ^ 2 / 8) (hw : Ideal.ofBits .f32 (expo g) = ((q : ℝ) : EReal)) : basis x g.val (expo g) j = ((bump r g : ℝ) : EReal) := by
    show power x g.val j * Ideal.exp (Ideal.ofBits .f32 (expo g)) = _
    rw [power_at x j r hx hr, hw, Ideal.exp_coe, ← EReal.coe_mul, pow_bump r g q hq]
  fin_cases g
  · exact key _ (by norm_num) w_e0
  · exact key _ (by norm_num) w_e1
  · exact key _ (by norm_num) w_e2
  · exact key _ (by norm_num) w_e3
  · exact key _ (by norm_num) w_e3
  · exact key _ (by norm_num) w_e2
  · exact key _ (by norm_num) w_e1
  · exact key _ (by norm_num) w_e0
end
end Cert.KernelIdeal.Hand
end
end
-- ==== Proof.KValue.lean ====
module
public import proofs.«01_k».proof.Proof.KLayer
public import Idealize.ShloMosaic.Lib.Pipeline.Value
@[expose] public section
noncomputable section
/-! The kernel's two layers at an index. -/
namespace Cert.KernelIdeal.Hand
open Idealize.ShloMosaic Idealize.ShloMosaic.TcCoe Idealize.SL.Sem
open Cert.KernelIdeal Cert.KernelIdeal.Gen Cert.Kan

theorem gates_at {n : Nat} (l : FVec Ideal (Mat 8 n) .f32) (hr : ∀ e : Fin 8, (Mat 8 n).Slices ![e.val, 0] (Mat 1 n)) (f : Fin 8 → ℝ) (s : Fin n)
    (hl : ∀ e, l (ix2 e s) = ((f e : ℝ) : EReal)) (e : Fin 8) : gates l hr e (ix2 0 s) = ((gate f e : ℝ) : EReal) := by
  refine gate_at f _ _ (fun e => ?_) e
  rw [← hl e]
  pointwise

theorem combine_at {o r n : Nat} (g : Fin 8 → FVec Ideal (Mat 1 n) .f32) (eo : FVec Ideal (Mat r n) .f32)
    (hs : ∀ e : Fin 8, (Mat r n).Slices ![e.val * o, 0] (Mat o n)) (hb : (Mat 1 n).Broadcasts (Mat o n)) (j : Fin o) (s : Fin n)
    (hn : n ≠ 1) (hlt : ∀ e : Fin 8, e.val * o + j.val < r) :
    combine g eo hs hb (ix2 j s) = ∑ e, g e (ix2 0 s) * eo (ix2 ⟨e.val * o + j.val, hlt e⟩ s) := by
  have t (e : Fin 8) : (mulf (broadcastTo (Mat o n) (g e) hb) (extractStridedSlice (Mat o n) ![e.val * o, 0] eo (hs e))) (ix2 j s)
      = g e (ix2 0 s) * eo (ix2 ⟨e.val * o + j.val, hlt e⟩ s) := by
    pointwise
    exact congrArg (fun q : Fin n => g e (ix2 0 q) * eo (ix2 ⟨e.val * o + j.val, hlt e⟩ s)) (dif_neg hn)
  rw [Fin.sum_univ_eight, ← t 0, ← t 1, ← t 2, ← t 3, ← t 4, ← t 5, ← t 6, ← t 7]
  rfl

/-- A sum over `m * n` positions, block by block. -/
theorem sum_blocks {N : Nat} (m n : Nat) (h : m * n = N) (f : Fin N → EReal) :
    ∑ q, f q = ∑ g : Fin m, ∑ i : Fin n, f ⟨g.val * n + i.val, by
      have h1 := g.isLt
      have h2 := i.isLt
      calc g.val * n + i.val < g.val * n + n := by omega
        _ = (g.val + 1) * n := by ring
        _ ≤ m * n := Nat.mul_le_mul_right _ h1
        _ = N := h⟩ := by
  subst h
  rw [← Fintype.sum_prod_type' (fun (g : Fin m) (i : Fin n) => f ⟨g.val * n + i.val, _⟩)]
  refine (Fintype.sum_equiv finProdFinEquiv _ _ fun p => ?_).symm
  congr 1
  apply Fin.ext
  simp [finProdFinEquiv]
  ring

/-! ## The encoder -/

theorem encStack_at (x : FVec Ideal S128x2048 .f32) (g : Fin 8) (i : Fin 128) (s : Fin 2048) :
    (concatenate S1024x2048 0 (pieces x) concatenates_S128x2048_S128x2048_S128x2048_S128x2048_S128x2048_S128x2048_S128x2048_S128x2048_S1024x2048_d0) (ix2 ⟨g.val * 128 + i.val, by omega⟩ s)
      = basis x g.val (expo g) (ix2 i s) := by
  have hi := i.isLt
  exact concatenate_ofFn_apply (α := EReal) (s₁ := S128x2048) (t := S1024x2048) 0 (fun g : Fin 8 => basis x g.val (expo g))
    concatenates_S128x2048_S128x2048_S128x2048_S128x2048_S128x2048_S128x2048_S128x2048_S128x2048_S1024x2048_d0 rfl 128 rfl _ g
    (by show (g.val * 128 + i.val) / 128 = g.val; omega) (ix2 i s) (by show i.val = (g.val * 128 + i.val) % 128; omega)
    (by intro b hb; match b with
        | ⟨0, _⟩ => exact absurd rfl hb
        | ⟨1, _⟩ => rfl)

theorem encExperts_at (x : FVec Ideal S128x2048 .f32) (wa : FVec Ideal S512x128 .bf16) (wb : FVec Ideal S512x1024 .bf16) (q : Fin 512) (s : Fin 2048)
    (r : Fin 128 → ℝ) (hx : ∀ i, x (ix2 i s) = ((r i : ℝ) : EReal)) (hr : ∀ i, |r i| ≤ bound) :
    encExperts x wa wb (ix2 q s) = (∑ i, ((act (r i) : ℝ) : EReal) * wa (ix2 q i))
      + ∑ i, ∑ g : Fin 8, ((bump (r i) g : ℝ) : EReal) * wb (ix2 q ⟨g.val * 128 + i.val, by omega⟩) := by
  have hb (i : Fin 128) : base x (ix2 i s) = ((act (r i) : ℝ) : EReal) := base_at x _ _ (hx i)
  have hg (g : Fin 8) (i : Fin 128) := (encStack_at x g i s).trans (basis_at x (ix2 i s) (r i) (hx i) (hr i) g)
  unfold encExperts
  generalize (concatenate S1024x2048 0 (pieces x) _) = C at hg ⊢
  generalize base x = B at hb ⊢
  pointwise
  rw [sum_blocks 8 128 rfl, Finset.sum_comm]
  congr 1
  · exact Finset.sum_congr rfl fun i _ => by rw [hb, mul_comm]
  · exact Finset.sum_congr rfl fun i _ => Finset.sum_congr rfl fun g _ => by rw [hg, mul_comm]

theorem encLogits_at (x : FVec Ideal S128x2048 .f32) (rb : FVec Ideal S8x1 .f32) (rw : FVec Ideal S128x8 .f32) (e : Fin 8) (s : Fin 2048) :
    encLogits x rb rw (ix2 e s) = (∑ i, x (ix2 i s) * rw (ix2 i e)) + rb (ix2 e 0) := by
  unfold encLogits
  pointwise
  congr 1
  exact Finset.sum_congr rfl fun i _ => mul_comm _ _

/-- The layer at an index. -/
theorem enc_at (x : FVec Ideal S128x2048 .f32) (rb : FVec Ideal S8x1 .f32) (rw : FVec Ideal S128x8 .f32)
    (wa : FVec Ideal S512x128 .bf16) (wb : FVec Ideal S512x1024 .bf16) (j : Fin 64) (s : Fin 2048)
    (r : Fin 128 → ℝ) (hx : ∀ i, x (ix2 i s) = ((r i : ℝ) : EReal)) (hr : ∀ i, |r i| ≤ bound)
    (l : Fin 8 → ℝ) (hl : ∀ e, (∑ i, ((r i : ℝ) : EReal) * rw (ix2 i e)) + rb (ix2 e 0) = ((l e : ℝ) : EReal)) :
    enc x rb rw wa wb (ix2 j s) = layer r l (fun e j i => wa (ix2 ⟨e.val * 64 + j.val, by omega⟩ i))
      (fun e j i g => wb (ix2 ⟨e.val * 64 + j.val, by omega⟩ ⟨g.val * 128 + i.val, by omega⟩)) j := by
  unfold enc layer expert
  rw [combine_at _ _ _ _ j s (by decide) (fun e => by omega)]
  refine Finset.sum_congr rfl fun e _ => ?_
  rw [gates_at _ _ l s (fun e => by rw [encLogits_at, ← hl]; simp only [hx]) e, encExperts_at x wa wb _ s r hx hr]

/-! ## The decoder -/

theorem decStack_at (x : FVec Ideal S64x2 .f32) (g : Fin 8) (i : Fin 64) (s : Fin 2) :
    (concatenate S512x2 0 (pieces x) concatenates_S64x2_S64x2_S64x2_S64x2_S64x2_S64x2_S64x2_S64x2_S512x2_d0) (ix2 ⟨g.val * 64 + i.val, by omega⟩ s)
      = basis x g.val (expo g) (ix2 i s) := by
  have hi := i.isLt
  exact concatenate_ofFn_apply (α := EReal) (s₁ := S64x2) (t := S512x2) 0 (fun g : Fin 8 => basis x g.val (expo g))
    concatenates_S64x2_S64x2_S64x2_S64x2_S64x2_S64x2_S64x2_S64x2_S512x2_d0 rfl 64 rfl _ g
    (by show (g.val * 64 + i.val) / 64 = g.val; omega) (ix2 i s) (by show i.val = (g.val * 64 + i.val) % 64; omega)
    (by intro b hb; match b with
        | ⟨0, _⟩ => exact absurd rfl hb
        | ⟨1, _⟩ => rfl)

theorem decExperts_at (x : FVec Ideal S64x2 .f32) (wa : FVec Ideal S1024x64 .bf16) (wb : FVec Ideal S1024x512 .bf16) (q : Fin 1024) (s : Fin 2)
    (r : Fin 64 → ℝ) (hx : ∀ i, x (ix2 i s) = ((r i : ℝ) : EReal)) (hr : ∀ i, |r i| ≤ bound) :
    decExperts x wa wb (ix2 q s) = (∑ i, ((act (r i) : ℝ) : EReal) * wa (ix2 q i))
      + ∑ i, ∑ g : Fin 8, ((bump (r i) g : ℝ) : EReal) * wb (ix2 q ⟨g.val * 64 + i.val, by omega⟩) := by
  have hb (i : Fin 64) : base x (ix2 i s) = ((act (r i) : ℝ) : EReal) := base_at x _ _ (hx i)
  have hg (g : Fin 8) (i : Fin 64) := (decStack_at x g i s).trans (basis_at x (ix2 i s) (r i) (hx i) (hr i) g)
  unfold decExperts
  generalize (concatenate S512x2 0 (pieces x) _) = C at hg ⊢
  generalize base x = B at hb ⊢
  pointwise
  rw [sum_blocks 8 64 rfl, Finset.sum_comm]
  congr 1
  · exact Finset.sum_congr rfl fun i _ => by rw [hb, mul_comm]
  · exact Finset.sum_congr rfl fun i _ => Finset.sum_congr rfl fun g _ => by rw [hg, mul_comm]

theorem decLogits_at (x : FVec Ideal S64x2 .f32) (rb : FVec Ideal S8x1 .f32) (rw : FVec Ideal S64x8 .f32) (e : Fin 8) (s : Fin 2) :
    decLogits x rb rw (ix2 e s) = (∑ i, x (ix2 i s) * rw (ix2 i e)) + rb (ix2 e 0) := by
  unfold decLogits
  pointwise
  congr 1
  exact Finset.sum_congr rfl fun i _ => mul_comm _ _

/-- The layer at an index. -/
theorem dec_at (x : FVec Ideal S64x2 .f32) (rb : FVec Ideal S8x1 .f32) (rw : FVec Ideal S64x8 .f32)
    (wa : FVec Ideal S1024x64 .bf16) (wb : FVec Ideal S1024x512 .bf16) (j : Fin 128) (s : Fin 2)
    (r : Fin 64 → ℝ) (hx : ∀ i, x (ix2 i s) = ((r i : ℝ) : EReal)) (hr : ∀ i, |r i| ≤ bound)
    (l : Fin 8 → ℝ) (hl : ∀ e, (∑ i, ((r i : ℝ) : EReal) * rw (ix2 i e)) + rb (ix2 e 0) = ((l e : ℝ) : EReal)) :
    dec x rb rw wa wb (ix2 j s) = layer r l (fun e j i => wa (ix2 ⟨e.val * 128 + j.val, by omega⟩ i))
      (fun e j i g => wb (ix2 ⟨e.val * 128 + j.val, by omega⟩ ⟨g.val * 64 + i.val, by omega⟩)) j := by
  unfold dec layer expert
  rw [combine_at _ _ _ _ j s (by decide) (fun e => by omega)]
  refine Finset.sum_congr rfl fun e _ => ?_
  rw [gates_at _ _ l s (fun e => by rw [decLogits_at, ← hl]; simp only [hx]) e, decExperts_at x wa wb _ s r hx hr]
end Cert.KernelIdeal.Hand
end
end
-- ==== Proof.KWeights.lean ====
module
public import proofs.«01_k».proof.Proof.KRun
public import proofs.«01_k».proof.Proof.KValue
@[expose] public section
noncomputable section
/-! The kernel's weights and its input blocks at an index. -/
namespace Cert.KernelIdeal.Hand
open Idealize.ShloMosaic Idealize.ShloMosaic.TcCoe Idealize.SL.Sem
open Cert.KernelIdeal Cert.KernelIdeal.Gen Cert.Kan

theorem encW_base (a3 : Vec Ideal S8x64x128 .f32) (a4 : Vec Ideal S8x64x128x8 .f32) (e : Fin 8) (j : Fin 64) (i : Fin 128) :
    View.ld (encW a3 a4) (Rect.unit ![0, 0] ![512, 128] inb_S512x1152_S512x128_0_0) (ix2 ⟨e.val * 64 + j.val, by omega⟩ i) = a3 (ix3 e j i) := by
  unfold encW
  pointwise
theorem encW_spline (a3 : Vec Ideal S8x64x128 .f32) (a4 : Vec Ideal S8x64x128x8 .f32) (e : Fin 8) (j : Fin 64) (i : Fin 128) (g : Fin 8) :
    View.ld (encW a3 a4) (Rect.unit ![0, 128] ![512, 1024] inb_S512x1152_S512x1024_0_128) (ix2 ⟨e.val * 64 + j.val, by omega⟩ ⟨g.val * 128 + i.val, by omega⟩)
      = a4 (ix4 e j i g) := by
  unfold encW
  pointwise
theorem bias0 (a2 a6 : Vec Ideal S8 .f32) (e : Fin 8) :
    View.ld (biases a2 a6) (Rect.unit ![0, 0] ![8, 1] inb_S8x2_S8x1_0_0) (ix2 e 0) = a2 (ix1 e) := by
  unfold biases
  pointwise
theorem bias1 (a2 a6 : Vec Ideal S8 .f32) (e : Fin 8) :
    View.ld (biases a2 a6) (Rect.unit ![0, 1] ![8, 1] inb_S8x2_S8x1_0_1) (ix2 e 0) = a6 (ix1 e) := by
  unfold biases
  pointwise
theorem contrib_at (b : BitVec 32) (h : FVec Ideal S64x2048 .f32) (o : Fin 64) (q : Fin 128) :
    contrib b h (ix2 o q) = if BitVec.ofNat 32 q.val = b then (∑ s, h (ix2 o s)) * ((1 / 2048 : ℝ) : EReal) else 0 := by
  unfold contrib
  pointwise
  rw [w_inv2048]
  show (if BitVec.ofBool (decide (BitVec.ofNat 32 q.val = b)) = 1#1 then _ else _) = _
  by_cases e : BitVec.ofNat 32 q.val = b <;> simp [e]

theorem decW_base (a7 : Vec Ideal S8x128x64 .f32) (a8 : Vec Ideal S8x128x64x8 .f32) (e : Fin 8) (j : Fin 128) (i : Fin 64) :
    View.ld (decW a7 a8) (Rect.unit ![0, 0] ![1024, 64] inb_S1024x576_S1024x64_0_0) (ix2 ⟨e.val * 128 + j.val, by omega⟩ i) = a7 (ix3 e j i) := by
  unfold decW
  pointwise
theorem decW_spline (a7 : Vec Ideal S8x128x64 .f32) (a8 : Vec Ideal S8x128x64x8 .f32) (e : Fin 8) (j : Fin 128) (i : Fin 64) (g : Fin 8) :
    View.ld (decW a7 a8) (Rect.unit ![0, 64] ![1024, 512] inb_S1024x576_S1024x512_0_64) (ix2 ⟨e.val * 128 + j.val, by omega⟩ ⟨g.val * 64 + i.val, by omega⟩)
      = a8 (ix4 e j i g) := by
  unfold decW
  pointwise
/-- A batch read as a matrix. -/
theorem batch_at (a0 : Vec Ideal S2x128x2048 .f32) (b : Fin 2) (i : Fin 128) (s : Fin 2048) :
    (shapeCast S128x2048 (batch a0 b) shapeCasts_S1x128x2048_S128x2048) (ix2 i s) = a0 (ix3 b i s) := by
  pointwise
  unfold batch
  pointwise
theorem lat_ld (l : Vec Ideal S64x128 .f32) (o : Fin 64) (b : Fin 2) :
    View.ld l (Rect.unit ![0, 0] ![64, 2] inb_S64x128_S64x2_0_0) (ix2 o b) = l (ix2 o ⟨b.val, by omega⟩) := by
  pointwise
theorem spread_at (o : Vec Ideal S128x2 .f32) (b : Fin 2) (j : Fin 128) (s : Fin 2048) : spread o (ix3 b j s) = o (ix2 j b) := by
  unfold spread
  pointwise

/-- The numbers the program reads, and what it takes for its layers to be taken at real numbers. -/
structure Reals (a0 : Vec Ideal S2x128x2048 .f32) (a1 : Vec Ideal S128x8 .f32) (a2 : Vec Ideal S8 .f32) (a3 : Vec Ideal S8x64x128 .f32)
    (a4 : Vec Ideal S8x64x128x8 .f32) (a5 : Vec Ideal S64x8 .f32) (a6 : Vec Ideal S8 .f32)
    (X : Fin 2 → Fin 2048 → Fin 128 → ℝ) (l1 : Fin 2 → Fin 2048 → Fin 8 → ℝ) (L : Fin 2 → Fin 64 → ℝ) (l2 : Fin 2 → Fin 8 → ℝ) : Prop where
  x : ∀ b s i, a0 (ix3 b i s) = ((X b s i : ℝ) : EReal)
  small : ∀ b s i, |X b s i| ≤ bound
  logits1 : ∀ b s e, (∑ i, ((X b s i : ℝ) : EReal) * a1 (ix2 i e)) + a2 (ix1 e) = ((l1 b s e : ℝ) : EReal)
  latent : ∀ b o, (∑ s, layer (X b s) (l1 b s) (fun e j i => a3 (ix3 e j i)) (fun e j i g => a4 (ix4 e j i g)) o) * ((1 / 2048 : ℝ) : EReal)
    = ((L b o : ℝ) : EReal)
  smallLat : ∀ b o, |L b o| ≤ bound
  logits2 : ∀ b e, (∑ o, ((L b o : ℝ) : EReal) * a5 (ix2 o e)) + a6 (ix1 e) = ((l2 b e : ℝ) : EReal)

section
variable {a0 : Vec Ideal S2x128x2048 .f32} {a1 : Vec Ideal S128x8 .f32} {a2 : Vec Ideal S8 .f32} {a3 : Vec Ideal S8x64x128 .f32}
    {a4 : Vec Ideal S8x64x128x8 .f32} {a5 : Vec Ideal S64x8 .f32} {a6 : Vec Ideal S8 .f32}
    {X : Fin 2 → Fin 2048 → Fin 128 → ℝ} {l1 : Fin 2 → Fin 2048 → Fin 8 → ℝ} {L : Fin 2 → Fin 64 → ℝ} {l2 : Fin 2 → Fin 8 → ℝ}
    (h : Reals a0 a1 a2 a3 a4 a5 a6 X l1 L l2)
include h

theorem encBlock_at (t : Fin grid0.N) (b : Fin 2) (hb : ((grid0.coords t) 0).val = b.val) (o : Fin 64) (q : Fin 128) :
    encBlock (grid0.coords t) (batch a0 b) a1 (biases a2 a6) (encW a3 a4) (ix2 o q) = if q.val = b.val then ((L b o : ℝ) : EReal) else 0 := by
  unfold encBlock
  rw [contrib_at, hb]
  have hq : (BitVec.ofNat 32 q.val = BitVec.ofNat 32 b.val) ↔ q.val = b.val := by
    have := q.isLt
    have := b.isLt
    rw [← BitVec.toNat_inj, BitVec.toNat_ofNat, BitVec.toNat_ofNat, Nat.mod_eq_of_lt (by omega), Nat.mod_eq_of_lt (by omega)]
  simp only [hq]
  congr 1
  rw [← h.latent b o]
  congr 1
  refine Finset.sum_congr rfl fun s _ => ?_
  rw [enc_at _ _ _ _ _ o s (X b s) (fun i => (batch_at a0 b i s).trans (h.x b s i)) (h.small b s) (l1 b s)
    (fun e => by rw [bias0]; exact h.logits1 b s e)]
  congr 1
  · funext e j i; exact encW_base a3 a4 e j i
  · funext e j i g; exact encW_spline a3 a4 e j i g

theorem latBuf_at (o : Fin 64) (b : Fin 2) : latBuf a0 a1 (biases a2 a6) (encW a3 a4) (ix2 o ⟨b.val, by omega⟩) = ((L b o : ℝ) : EReal) := by
  unfold latBuf
  pointwise
  rw [encBlock_at h t0_0 0 (by decide), encBlock_at h t0_1 1 (by decide)]
  fin_cases b <;> simp

/-- The region's result at an index. -/
theorem outOf_at (a7 : Vec Ideal S8x128x64 .f32) (a8 : Vec Ideal S8x128x64x8 .f32) (j : Fin 128) (b : Fin 2) :
    outOf a0 a1 a2 a3 a4 a5 a6 a7 a8 (ix2 j b)
      = layer (L b) (l2 b) (fun e j i => a7 (ix3 e j i)) (fun e j i g => a8 (ix4 e j i g)) j := by
  unfold outOf decBlock
  rw [dec_at _ _ _ _ _ j b (L b) (fun o => (lat_ld _ o b).trans (latBuf_at h o b)) (h.smallLat b) (l2 b)
    (fun e => by rw [bias1]; exact h.logits2 b e)]
  congr 1
  · funext e j i; exact decW_base a7 a8 e j i
  · funext e j i g; exact decW_spline a7 a8 e j i g
end
end Cert.KernelIdeal.Hand
end
end
-- ==== Proof.Same.lean ====
module
public import proofs.«01_k».proof.Proof.RLayerAt
public import proofs.«01_k».proof.Proof.Pre
public import proofs.«01_k».proof.Proof.KWeights
@[expose] public section
noncomputable section
/-! The kernel's result is the reference's. -/
namespace Cert.Same
open Idealize.ShloMosaic
open Cert.KernelIdeal Cert.Kan

/-- A row of logits is a row of real numbers. -/
theorem logit {n : Nat} (X w : Fin n → ℝ) (r : ℝ) : (∑ i, ((X i : ℝ) : EReal) * ((w i : ℝ) : EReal)) + ((r : ℝ) : EReal) = (((∑ i, X i * w i) + r : ℝ) : EReal) := by
  rw [EReal.coe_add, coe_sum]
  simp only [EReal.coe_mul]

theorem same [Cert.Pre_in_range.Facts] (a0 : FVec Ideal S2x128x2048 .f32) (a1 : FVec Ideal S128x8 .f32) (a2 : FVec Ideal S8 .f32) (a3 : FVec Ideal S8x64x128 .f32)
    (a4 : FVec Ideal S8x64x128x8 .f32) (a5 : FVec Ideal S64x8 .f32) (a6 : FVec Ideal S8 .f32) (a7 : FVec Ideal S8x128x64 .f32) (a8 : FVec Ideal S8x128x64x8 .f32)
    (h : Cert.Pre_in_range.fn a0 a1 a2 a3 a4 a5 a6 a7 a8 = fun _ => 1#1) :
    Cert.ReferenceIdeal.Hand.whole a0 a1 a2 a3 a4 a5 a6 a7 a8 = Hand.spread (F := Ideal) (Hand.outOf a0 a1 a2 a3 a4 a5 a6 a7 a8) := by
  obtain ⟨h1, h2, h5, h6, h0, hl⟩ := Cert.Pre_in_range.Hand.of_pre a0 a1 a2 a3 a4 a5 a6 a7 a8 h
  choose r1 h1 using h1
  choose r2 h2 using h2
  choose r5 h5 using h5
  choose r6 h6 using h6
  choose r0 h0 hb0 using h0
  choose rl hl hbl using hl
  have log1 : ∀ b s e, (∑ i, ((r0 (ix3 b i s) : ℝ) : EReal) * a1 (ix2 i e)) + a2 (ix1 e) = (((∑ i, r0 (ix3 b i s) * r1 (ix2 i e)) + r2 (ix1 e) : ℝ) : EReal) := by
    intro b s e
    simp only [h1, h2]
    exact logit _ _ _
  have log2 : ∀ b e, (∑ o, ((rl (ix2 b o) : ℝ) : EReal) * a5 (ix2 o e)) + a6 (ix1 e) = (((∑ o, rl (ix2 b o) * r5 (ix2 o e)) + r6 (ix1 e) : ℝ) : EReal) := by
    intro b e
    simp only [h5, h6]
    exact logit _ _ _
  have hr : Hand.Reals a0 a1 a2 a3 a4 a5 a6 (fun b s i => r0 (ix3 b i s)) (fun b s e => (∑ i, r0 (ix3 b i s) * r1 (ix2 i e)) + r2 (ix1 e))
      (fun b o => rl (ix2 b o)) (fun b e => (∑ o, rl (ix2 b o) * r5 (ix2 o e)) + r6 (ix1 e)) :=
    { x := fun b s i => h0 _
      small := fun b s i => hb0 _
      logits1 := log1
      latent := fun b o => (Cert.ReferenceIdeal.Hand.latent_at a0 a1 a2 a3 a4 b _ _ (fun s i => h0 _) (log1 b) o).symm.trans (hl _)
      smallLat := fun b o => hbl _
      logits2 := log2 }
  have at_ix : ∀ (b : Fin 2) (j : Fin 128) (s : Fin 2048), Cert.ReferenceIdeal.Hand.whole a0 a1 a2 a3 a4 a5 a6 a7 a8 (ix3 b j s)
      = Hand.spread (F := Ideal) (Hand.outOf a0 a1 a2 a3 a4 a5 a6 a7 a8) (ix3 b j s) := fun b j s => by
    rw [Hand.spread_at, Hand.outOf_at hr]
    exact Cert.ReferenceIdeal.Hand.whole_at a0 a1 a2 a3 a4 a5 a6 a7 a8 b _ _ (fun o => hl _) (log2 b) j s
  funext k
  rw [eq_ix3 k]
  exact at_ix _ _ _
end Cert.Same
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.KRun
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference keeps its arguments. -/
theorem frameRef : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)
/-- The two programs end with equal results. -/
theorem alg : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp hargs
  refine ⟨fun c => Cert.KernelIdeal.Hand.spread (Cert.KernelIdeal.Hand.outM m c), Cert.KernelIdeal.Hand.run m g, ?_⟩
  refine (θ_run Cert.ReferenceIdeal.defs _ _).mono (fun r h c => ⟨(h c).1.trans ?_, (h c).2⟩) (Cert.ReferenceIdeal.Hand.run m' g')
  obtain ⟨e0, e1, e2, e3, e4, e5, e6, e7, e8⟩ := hargs c
  rw [e0, e1, e2, e3, e4, e5, e6, e7, e8]
  exact @Cert.Same.same Cert.Pre_in_range.Gen.facts _ _ _ _ _ _ _ _ _ (hp c)

/-- Everything claimed. -/
theorem claim : Cert.Claim := ⟨Cert.Kernel.Gen.facts, Cert.KernelIdeal.Gen.facts, Cert.ReferenceIdeal.Gen.facts,
  Cert.Pre_in_range.Gen.facts, fun m ρ _ => Cert.Kernel.Gen.frame m ρ, fun m ρ _ => Cert.KernelIdeal.Gen.frame m ρ,
  fun m ρ _ => Cert.KernelIdeal.Gen.frame m ρ, frameRef, fun m ρ _ => frameRef m ρ trivial, trivial, alg⟩

end Cert.Proof

end
